-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x16x8192 : Shape := ⟨3, ![32, 16, 8192]⟩
abbrev S32x8192x128 : Shape := ⟨3, ![32, 8192, 128]⟩
abbrev S512x8192 : Shape := ⟨2, ![512, 8192]⟩
abbrev S512 : Shape := ⟨1, ![512]⟩
abbrev S_ : Shape := ⟨0, ![]⟩
abbrev S262144x128 : Shape := ⟨2, ![262144, 128]⟩
abbrev S512x128 : Shape := ⟨2, ![512, 128]⟩
abbrev S16 : Shape := ⟨1, ![16]⟩
abbrev S16x128 : Shape := ⟨2, ![16, 128]⟩
abbrev S32x16x128 : Shape := ⟨3, ![32, 16, 128]⟩

abbrev nBuf : Table → Nat
  | .hbm => 34
  | .local .scVector .vmem => 2
  | _ => 0

abbrev bufTy : (tb : Table) → Fin (nBuf tb) → BufTy
  | .hbm, ⟨0, _⟩ => ⟨S32x16x8192, .f32⟩
  | .hbm, ⟨1, _⟩ => ⟨S32x8192x128, .f32⟩
  | .hbm, ⟨2, _⟩ => ⟨S512x8192, .f32⟩
  | .hbm, ⟨3, _⟩ => ⟨S512, .i32⟩
  | .hbm, ⟨4, _⟩ => ⟨S512x8192, .i32⟩
  | .hbm, ⟨5, _⟩ => ⟨S_, .f32⟩
  | .hbm, ⟨6, _⟩ => ⟨S_, .i32⟩
  | .hbm, ⟨7, _⟩ => ⟨S512, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S262144x128, .f32⟩
  | .hbm, ⟨32, _⟩ => ⟨S512x128, .f32⟩
  | .hbm, ⟨33, _⟩ => ⟨S32x16x128, .f32⟩
  | .local .scVector .vmem, ⟨0, _⟩ => ⟨S16, .i32⟩
  | .local .scVector .vmem, ⟨1, _⟩ => ⟨S16x128, .f32⟩
  | _, _ => ⟨S32x16x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v7_scv : Ref sig .scVector := ⟨.hbm, 31, rfl⟩
abbrev main_v6_scv : Ref sig .scVector := ⟨.hbm, 30, rfl⟩
abbrev main_v8_scv : Ref sig .scVector := ⟨.hbm, 32, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x16x8192 : Shape := ⟨3, ![32, 16, 8192]⟩
abbrev S32x8192x128 : Shape := ⟨3, ![32, 8192, 128]⟩
abbrev S_ : Shape := ⟨0, ![]⟩
abbrev S32x16 : Shape := ⟨2, ![32, 16]⟩
abbrev S32 : Shape := ⟨1, ![32]⟩
abbrev S32x1 : Shape := ⟨2, ![32, 1]⟩
abbrev S262144x128 : Shape := ⟨2, ![262144, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S512x128 : Shape := ⟨2, ![512, 128]⟩
abbrev S32x16x128 : Shape := ⟨3, ![32, 16, 128]⟩

abbrev nBuf : Space → Nat
  | .hbm => 43
  | .vmem => 0
  | .smem => 0
  | _ => 0

abbrev bufTy : (tb : Table) → Fin (tcTables nBuf tb) → BufTy
  | .hbm, ⟨0, _⟩ => ⟨S32x16x8192, .f32⟩
  | .hbm, ⟨1, _⟩ => ⟨S32x8192x128, .f32⟩
  | .hbm, ⟨2, _⟩ => ⟨S32x16x8192, .i32⟩
  | .hbm, ⟨3, _⟩ => ⟨S_, .f32⟩
  | .hbm, ⟨4, _⟩ => ⟨S_, .i32⟩
  | .hbm, ⟨5, _⟩ => ⟨S32x16, .f32⟩
  | .hbm, ⟨6, _⟩ => ⟨S32x16, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32x16, .i32⟩
  | .hbm, ⟨16, _⟩ => ⟨S32x16, .i32⟩
  | .hbm, ⟨17, _⟩ => ⟨S262144x128, .f32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1, .i32⟩
  | .hbm, ⟨28, _⟩ => ⟨S_, .i32⟩
  | .hbm, ⟨29, _⟩ => ⟨S512x1, .i32⟩
  | .hbm, ⟨30, _⟩ => ⟨S512x1, .i1⟩
  | .hbm, ⟨31, _⟩ => ⟨S1x1, .i32⟩
  | .hbm, ⟨32, _⟩ => ⟨S512x1, .i32⟩
  | .hbm, ⟨33, _⟩ => ⟨S512x1, .i1⟩
  | .hbm, ⟨34, _⟩ => ⟨S512x1, .i1⟩
  | .hbm, ⟨35, _⟩ => ⟨S_, .i1⟩
  | .hbm, ⟨36, _⟩ => ⟨S512, .i1⟩
  | .hbm, ⟨37, _⟩ => ⟨S512x128, .f32⟩
  | .hbm, ⟨38, _⟩ => ⟨S512x128, .i1⟩
  | .hbm, ⟨39, _⟩ => ⟨S_, .f32⟩
  | .hbm, ⟨40, _⟩ => ⟨S512x128, .f32⟩
  | .hbm, ⟨41, _⟩ => ⟨S512x128, .f32⟩
  | .hbm, ⟨42, _⟩ => ⟨S32x16x128, .f32⟩
  | _, _ => ⟨S32x16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v11 : Ref sig .tc := ⟨.hbm, 41, rfl⟩
abbrev main_v12 : Ref sig .tc := ⟨.hbm, 42, rfl⟩

abbrev nD : Nat := 1
abbrev τ : Topo := Topo.v7x

variable {F : FTy → Type} [FloatOps F]
-- ==== Proof.ArgRange.lean ====
/-
  What the columns of a host arg-max can be, for any float instance and whatever the order of its reduction does with entries
  that are not numbers: each is the initial column or the column of some entry.
-/
module

public import Idealize.ShloMosaic.PureOps.Reduce
public import Idealize.ShloMosaic.Lib.ValueIdxCore

@[expose] public section

noncomputable section

namespace Cert.Proof

open Idealize.ShloMosaic

variable {F : FTy → Type} [FloatOps F]

/-- A left fold whose every step keeps one of its two columns keeps what all the columns share. -/
theorem foldl_col {A B : Type} (f : A × B → A × B → A × B) (hf : ∀ a b, (f a b).2 = a.2 ∨ (f a b).2 = b.2) (Q : B → Prop) :
    ∀ (l : List (A × B)) (z : A × B), Q z.2 → (∀ p ∈ l, Q p.2) → Q (l.foldl f z).2
  | [], _, hz, _ => hz
  | p :: l, z, hz, hl => by
    refine foldl_col f hf Q l (f z p) ?_ fun q hq => hl q (List.mem_cons_of_mem _ hq)
    rcases hf z p with e | e <;> rw [e]
    · exact hz
    · exact hl p List.mem_cons_self

/-- What every column of the operand and the initial column share, the column of an arg-max has. -/
theorem argReduce_col {s t u : Shape} {axes : List (Fin s.rank)} {φ : FTy} {B : Type} (f : F φ × B → F φ × B → F φ × B)
    (hf : ∀ a b, (f a b).2 = a.2 ∨ (f a b).2 = b.2) (x : FVec F s φ) (y : s.Idx → B) (ix : u.Idx → F φ) (iy : u.Idx → B)
    (h : s.ReducesTo axes t) (hu : 0 < u.numel) (j : t.Idx) (Q : B → Prop) (hy : ∀ i, Q (y i)) (hi : ∀ i, Q (iy i)) :
    Q (Host.argReduce f x y ix iy h hu j).2 := by
  have hfib : ∀ p ∈ Host.argReduceFiber x y h j, Q p.2 := by
    intro p hp
    obtain ⟨n, -, rfl⟩ := List.mem_map.mp hp
    exact hy _
  rcases Nat.lt_or_ge (Host.argReduceNaNs x y h j).length 2 with hj | hj
  · rw [Host.argReduce_apply_eq_reduce2 f x y ix iy h hu j (by omega), Host.reduce2_eq_foldl_fiber]
    exact foldl_col f hf Q _ _ (hi _) hfib
  · exact hfib _ ((Host.mem_argReduceNaNs_iff x y h j _).mp (Host.argReduce_mem_nans f x y ix iy h hu j hj)).1

/-- The columns an arg-max finds, one for each index of its result. -/
def colOf {s t u : Shape} {axes : List (Fin s.rank)} {φ : FTy} {B : Type} (f : F φ × B → F φ × B → F φ × B)
    (x : FVec F s φ) (y : s.Idx → B) (ix : u.Idx → F φ) (iy : u.Idx → B)
    (h : s.ReducesTo axes t) (hu : 0 < u.numel) : t.Idx → B :=
  fun j => (Host.argReduce f x y ix iy h hu j).2

/-- What every column of the operand and the initial column share, every column found has. -/
theorem colOf_mem {s t u : Shape} {axes : List (Fin s.rank)} {φ : FTy} {B : Type} (f : F φ × B → F φ × B → F φ × B)
    (hf : ∀ a b, (f a b).2 = a.2 ∨ (f a b).2 = b.2) (x : FVec F s φ) (y : s.Idx → B) (ix : u.Idx → F φ) (iy : u.Idx → B)
    (h : s.ReducesTo axes t) (hu : 0 < u.numel) (Q : B → Prop) (hy : ∀ i, Q (y i)) (hi : ∀ i, Q (iy i)) (j : t.Idx) :
    Q (colOf f x y ix iy h hu j) :=
  argReduce_col f hf x y ix iy h hu j Q hy hi

end Cert.Proof

end
-- ==== Proof.HostIdeal.lean ====
/-
  The host operations around the launch, for any float instance: the operations before the call as one list, and what they
  leave in the two arrays the call reads — the flat row numbers, a function of the attention matrix alone, and the table, the
  value matrix with its first two axes joined.
-/
module

public import proofs.«01_k».proof.Proof.Gen.KernelIdeal
public import proofs.«01_k».proof.Proof.ArgRange
public import Idealize.ShloMosaic.Lib.StableHlo.Run
public import Idealize.ShloMosaic.Lib.ValueIdxCore

@[expose] public section

noncomputable section

namespace Cert.Proof.GatherIdeal

open Cert.KernelIdeal Cert.KernelIdeal.Gen
open Idealize.ShloMosaic
open Idealize.ShloMosaic.StableHlo (seq after)

variable {F : FTy → Type} [FloatOps F]

/-! ## The operations before the call -/

/-- The column of the greatest entry of each row. -/
abbrev argOps : List (HloOp τ sig (Elt F)) :=
  [ StableHlo.TRef.nullary main_call0.v0 (iotaInDim S512x8192 32 1),
    StableHlo.TRef.nullary main_call0.cst (constant S_ .f32 0xFF800000#32),
    StableHlo.TRef.nullary main_call0.c (constantI S_ 32 0#32),
    StableHlo.TRef.quaternary (.of main_v0) main_call0.v0 main_call0.cst main_call0.c main_call0.v1_0
      (fun x y u v j => (Host.argReduce reducer_argmax_f32_i32 x y u v reducesTo_S512x8192_S512_d1 h_S_ j).1),
    StableHlo.TRef.quaternary (.of main_v0) main_call0.v0 main_call0.cst main_call0.c main_call0.v1_1
      (fun x y u v j => (Host.argReduce reducer_argmax_f32_i32 x y u v reducesTo_S512x8192_S512_d1 h_S_ j).2) ]

/-- The quotient of each row's number by sixteen, rounded down. -/
abbrev divOps : List (HloOp τ sig (Elt F)) :=
  [ StableHlo.TRef.unary (.of main_c) main_call1.v0 id,
    StableHlo.TRef.unary main_call1.v0 main_call1.v1 (broadcastInDim S512 ![] bcast_S_S512),
    StableHlo.TRef.binary (.of main_v1) main_call1.v1 main_call1.v2 Host.divsi,
    StableHlo.TRef.unary (.of main_v1) main_call1.v3 signi,
    StableHlo.TRef.unary main_call1.v0 main_call1.v4 signi,
    StableHlo.TRef.unary main_call1.v4 main_call1.v5 (broadcastInDim S512 ![] bcast_S_S512),
    StableHlo.TRef.binary main_call1.v3 main_call1.v5 main_call1.v6 (cmpi .ne),
    StableHlo.TRef.unary main_call1.v0 main_call1.v7 (broadcastInDim S512 ![] bcast_S_S512),
    StableHlo.TRef.binary (.of main_v1) main_call1.v7 main_call1.v8 Host.remsi,
    StableHlo.TRef.nullary main_call1.c (constantI S_ 32 0#32),
    StableHlo.TRef.unary main_call1.c main_call1.v9 (broadcastInDim S512 ![] bcast_S_S512),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S512 ![] bcast_S_S512),
    StableHlo.TRef.binary main_call1.v2 main_call1.v12 main_call1.v13 subi,
    StableHlo.TRef.ternary main_call1.v11 main_call1.v13 main_call1.v2 main_call1_call0.v0 select ]

abbrev headOps : List (HloOp τ sig (Elt F)) :=
  [ StableHlo.reshape main_arg0 main_v0 (rfl : (.f32 : EltTy) = .f32) shapeCasts_S32x16x8192_S512x8192,
    StableHlo.nullary main_v1 (iotaInDim S512 32 0) ]

abbrev tailOps : List (HloOp τ sig (Elt F)) :=
  [ StableHlo.nullary main_c_0 (constantI S_ 32 8192#32),
    StableHlo.unary main_c_0 main_v4 (broadcastInDim S512 ![] bcast_S_S512 : (⟨S_, .i32⟩ : BufTy).Contents (Elt F) → (⟨S512, .i32⟩ : BufTy).Contents (Elt F)),
    StableHlo.binary main_v3 main_v4 main_v5 (muli : (⟨S512, .i32⟩ : BufTy).Contents (Elt F) → (⟨S512, .i32⟩ : BufTy).Contents (Elt F) → (⟨S512, .i32⟩ : BufTy).Contents (Elt F)),
    StableHlo.binary main_v2 main_v5 main_v6 (addi : (⟨S512, .i32⟩ : BufTy).Contents (Elt F) → (⟨S512, .i32⟩ : BufTy).Contents (Elt F) → (⟨S512, .i32⟩ : BufTy).Contents (Elt F)),
    StableHlo.reshape main_arg1 main_v7 (rfl : (.f32 : EltTy) = .f32) shapeCasts_S32x8192x128_S262144x128 ]

/-- All of them, in order. -/
abbrev preOps : List (HloOp τ sig (Elt F)) :=
  headOps ++ (argOps ++ (StableHlo.nullary main_c (constantI S_ 32 16#32) :: (divOps ++ tailOps)))

/-- The operation after the call: the result's rows put back under their matrix. -/
abbrev lastOp : HloOp τ sig (Elt F) :=
  StableHlo.reshape main_v8 main_v9 (rfl : (.f32 : EltTy) = .f32) shapeCasts_S512x128_S32x16x128

/-- @main is these operations, the call, and the last operation. -/
theorem main_eq (d : Dev nD) :
    main (F := F) d = (seq preOps >>= fun _ => sc.run d 0 >>= fun _ => hlo rfl lastOp (fun _ => .ret ⟨⟩)) := by
  simp only [main, fn_argmax.body, fn_floor_divide.body, fn_where.body, preOps, headOps, argOps, divOps, tailOps, List.cons_append,
    List.nil_append, seq, bind_assoc, pure_bind]
  rfl

theorem preOps_bufs : ∀ op ∈ preOps (F := F), op.bufs ⊆ StableHlo.tcRefs τ sig :=
  List.forall_iff_forall_mem.mp (by simp)

theorem preOps_fresh : ∀ op ∈ preOps (F := F), op.fresh = ∅ := by
  intro op hop; fin_cases hop <;> rfl

/-! ## What they compute -/

/-- The operations' quotient of an integer array by a scalar, rounded down. -/
def quot (x : S512.Idx → BitVec 32) (n : S_.Idx → BitVec 32) : S512.Idx → BitVec 32 :=
  select
    (andi (cmpi .ne (signi x) (broadcastInDim S512 ![] bcast_S_S512 (signi n)))
      (cmpi .ne (Host.remsi x (broadcastInDim S512 ![] bcast_S_S512 n)) (broadcastInDim S512 ![] bcast_S_S512 (constantI S_ 32 0#32))))
    (subi (Host.divsi x (broadcastInDim S512 ![] bcast_S_S512 n)) (broadcastInDim S512 ![] bcast_S_S512 (constantI S_ 32 1#32)))
    (Host.divsi x (broadcastInDim S512 ![] bcast_S_S512 n))

/-- The column of the greatest entry of each of the 512 rows. -/
def cols (a : S512x8192.Idx → F .f32) : S512.Idx → BitVec 32 :=
  colOf reducer_argmax_f32_i32 a (iotaInDim S512x8192 32 1) (constant S_ .f32 0xFF800000#32) (constantI S_ 32 0#32)
    reducesTo_S512x8192_S512_d1 h_S_

/-- The flat row numbers: each row's column, past the rows of the earlier matrices. -/
def flat (a : S512x8192.Idx → F .f32) : S512.Idx → BitVec 32 :=
  addi (cols a) (muli (quot (iotaInDim S512 32 0) (constantI S_ 32 16#32)) (broadcastInDim S512 ![] bcast_S_S512 (constantI S_ 32 8192#32)))

theorem after_ix (V : Valuation τ sig (Elt F)) :
    after preOps V (Proc.devRef .tc main_v6) = flat (shapeCast S512x8192 (V (Proc.devRef .tc main_arg0)) shapeCasts_S32x16x8192_S512x8192) := by
  simp only [preOps, headOps, argOps, divOps, tailOps, List.cons_append, List.nil_append]
  after_results_simp
  rfl

theorem after_tb (V : Valuation τ sig (Elt F)) :
    after preOps V (Proc.devRef .tc main_v7) = shapeCast S262144x128 (V (Proc.devRef .tc main_arg1)) shapeCasts_S32x8192x128_S262144x128 := by
  simp only [preOps, headOps, argOps, divOps, tailOps, List.cons_append, List.nil_append]
  after_results_simp
  rfl

theorem after_arg0 (V : Valuation τ sig (Elt F)) : after preOps V (Proc.devRef .tc main_arg0) = V (Proc.devRef .tc main_arg0) := by
  simp only [preOps, headOps, argOps, divOps, tailOps, List.cons_append, List.nil_append]
  after_results_simp

theorem after_arg1 (V : Valuation τ sig (Elt F)) : after preOps V (Proc.devRef .tc main_arg1) = V (Proc.devRef .tc main_arg1) := by
  simp only [preOps, headOps, argOps, divOps, tailOps, List.cons_append, List.nil_append]
  after_results_simp

end Cert.Proof.GatherIdeal

end
-- ==== Proof.FlatIdeal.lean ====
/-
  The flat row numbers: row `r`'s is its column plus 8192 times the number of its matrix, and a row of the table.
-/
module

public import proofs.«01_k».proof.Proof.HostIdeal
public import proofs.«01_k».proof.Proof.ArgRange

@[expose] public section

noncomputable section

namespace Cert.Proof.GatherIdeal

open Cert.KernelIdeal Cert.KernelIdeal.Gen
open Idealize.ShloMosaic
open Idealize.ShloMosaic.ValueIdx (ix1 ix2 eq_ix1 eq_ix2)

variable {F : FTy → Type} [FloatOps F]

/-- Row `r` belongs to matrix `r / 16`. -/
theorem quot_row : ∀ r : Fin 512, quot (iotaInDim S512 32 0) (constantI S_ 32 16#32) (ix1 r) = BitVec.ofNat 32 (r.val / 16) := by
  decide +kernel

/-- The body of the arg-max keeps the column of one of its two entries. -/
theorem body_col (p q : F .f32 × BitVec 32) :
    (reducer_argmax_f32_i32 p q).2 = p.2 ∨ (reducer_argmax_f32_i32 p q).2 = q.2 := by
  unfold reducer_argmax_f32_i32 Scalar.select
  dsimp only
  split
  · exact .inl rfl
  · exact .inr rfl

/-- The columns counted along the rows are below 8192. -/
theorem count_lt (i : S512x8192.Idx) : (iotaInDim S512x8192 32 1 i).toNat < 8192 := by
  show (BitVec.ofNat 32 (i 1).val).toNat < 8192
  have hl : (i 1).val < 8192 := (i 1).isLt
  rw [BitVec.toNat_ofNat]
  omega

/-- The column the arg-max starts from is below 8192. -/
theorem start_lt (i : S_.Idx) : (constantI S_ 32 0#32 i).toNat < 8192 := by
  show (0#32 : BitVec 32).toNat < 8192
  exact Nat.zero_lt_succ _

/-- Each column is one of the 8192. -/
theorem cols_lt (a : S512x8192.Idx → F .f32) (j : S512.Idx) : (cols a j).toNat < 8192 := by
  delta cols
  exact colOf_mem _ body_col _ _ _ _ _ _ (fun b : BitVec 32 => b.toNat < 8192) count_lt start_lt _

/-- The flat row number of row `r`. -/
theorem flat_toNat (a : S512x8192.Idx → F .f32) (r : Fin 512) :
    (flat a (ix1 r)).toNat = (cols a (ix1 r)).toNat + 8192 * (r.val / 16) := by
  have hc := cols_lt a (ix1 r)
  have hr := r.isLt
  show (cols a (ix1 r) + quot (iotaInDim S512 32 0) (constantI S_ 32 16#32) (ix1 r) * 8192#32).toNat = _
  rw [quot_row, BitVec.toNat_add, BitVec.toNat_mul, BitVec.toNat_ofNat, show (8192#32 : BitVec 32).toNat = 8192 from rfl]
  omega

/-- Every flat row number is a row of the table. -/
theorem flat_lt (a : S512x8192.Idx → F .f32) (j : S512.Idx) : (flat a j).toNat < 262144 := by
  obtain ⟨r, rfl⟩ : ∃ r : Fin 512, j = ix1 r := ⟨j 0, eq_ix1 j⟩
  have hc := cols_lt a (ix1 r)
  have hr := r.isLt
  rw [flat_toNat]
  omega

end Cert.Proof.GatherIdeal

end
-- ==== Proof.TilesIdeal.lean ====
/-
  The row gather on the vector subcores, run once at symbolic coordinates, for any float instance.

  Thirty-two tasks (two SparseCores of sixteen vector subcores) cut the 512 rows of the result into blocks of sixteen.
  Task `w = 2 * subcore + core` fetches its sixteen row numbers from the index list into its scratch, streams the table
  rows they name into its row scratch, and copies these out to its block of the result. What each task leaves there is
  stated outright: the block of ONE function of the index list and the table, `pickRows`.

  The index list `ix`, the table `tb` and the result's earlier contents `o0` are parameters here, with the list's entries
  below the table's number of rows; the program's own values take their place where the launch is put together.
-/
module

public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic

@[expose] public section

noncomputable section

namespace Cert.Proof.GatherIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.ValueIdx (ix1 ix2 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The launch's handshakes and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and their thirty-two blocks -/

/-- The index list, the table and the result, as locations of device `d`. -/
abbrev ixLoc (d : Dev nD) : Loc nD τ sig := (SparseCore.T d).loc main_v6
abbrev tbLoc (d : Dev nD) : Loc nD τ sig := (SparseCore.T d).loc main_v7
abbrev outLoc (d : Dev nD) : Loc nD τ sig := (SparseCore.T d).loc main_v8

local notation "ixV" => (Memref.whole Cert.KernelIdeal.main_v6_scv : Memref Cert.KernelIdeal.sig Kind.scVector Space.hbm Cert.KernelIdeal.S512 EltTy.i32)
local notation "tbV" => (Memref.whole Cert.KernelIdeal.main_v7_scv : Memref Cert.KernelIdeal.sig Kind.scVector Space.hbm Cert.KernelIdeal.S262144x128 EltTy.f32)
local notation "outV" => (Memref.whole Cert.KernelIdeal.main_v8_scv : Memref Cert.KernelIdeal.sig Kind.scVector Space.hbm Cert.KernelIdeal.S512x128 EltTy.f32)
local notation "lstV" => (Memref.whole Cert.KernelIdeal.cc0_scratch0 : Memref Cert.KernelIdeal.sig Kind.scVector Space.vmem Cert.KernelIdeal.S16 EltTy.i32)
local notation "rowV" => (Memref.whole Cert.KernelIdeal.cc0_scratch1 : Memref Cert.KernelIdeal.sig Kind.scVector Space.vmem Cert.KernelIdeal.S16x128 EltTy.f32)

theorem ixDvd : 32 ∣ S512.size 0 := ⟨16, rfl⟩
theorem outDvd : 32 ∣ S512x128.size 0 := ⟨16, rfl⟩
/-- Block `w` of the index list and of the result: sixteen entries, sixteen rows. -/
abbrev ixBlk (w : Fin 32) : Finset S512.Idx := (Rect.part (s := S512) (a₀ := 0) ixDvd w).set
abbrev outBlk (w : Fin 32) : Finset S512x128.Idx := (Rect.part (s := S512x128) (a₀ := 0) outDvd w).set

/-- The task on subcore `s` of SparseCore `c` has block `2 * s + c`. -/
def task (c : Fin 2) (s : Fin 16) : Fin 32 := ⟨2 * s.val + c.val, by omega⟩

/-- Every block is exactly one task's. -/
def tasks : Fin 2 × Fin 16 ≃ Fin 32 where
  toFun p := task p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (show 2 * (w.val / 2) + w.val % 2 = w.val by omega)

/-- What a whole run of the tasks leaves in the result: row `r` is the table's row number `ix r`. -/
def pickRows {α : Type} (ix : S512.Idx → BitVec 32) (tb : S262144x128.Idx → α) : S512x128.Idx → α :=
  fun j => tb (ix2 ⟨(ix (ix1 (j 0))).toNat % 262144, Nat.mod_lt _ (by decide)⟩ (j 1))

variable [FloatOps F]
variable (ix : (d : Dev nD) → Buf (Elt F) (ixLoc d)) (tb : (d : Dev nD) → Buf (Elt F) (tbLoc d))
  (o0 : (d : Dev nD) → Buf (Elt F) (outLoc d))

/-- The gathered rows of device `d`. -/
def picked (d : Dev nD) : Buf (Elt F) (outLoc d) := pickRows (α := Elt F .f32) (ix d) (tb d)

/-- Every entry of the index list is a row of the table. -/
def InRows : Prop := ∀ (d : Dev nD) (j : S512.Idx), (ix d j).toNat < 262144

/-- What task `w` is handed: its block of the list, a thirty-second share of the table, its block of the result … -/
def give (d : Dev nD) (w : Fin 32) : sProp 𝕄 :=
  iprop((ixLoc d ↦[ixBlk w]{fullShare} ix d) ∗ (tbLoc d ↦{ShareLeaves.leaf 5 fullShare w} tb d)
    ∗ outLoc d ↦[outBlk w]{fullShare} o0 d)
/-- … and what it hands back: the same with the block of the result at the gathered rows. -/
def back (d : Dev nD) (w : Fin 32) : sProp 𝕄 :=
  iprop((ixLoc d ↦[ixBlk w]{fullShare} ix d) ∗ (tbLoc d ↦{ShareLeaves.leaf 5 fullShare w} tb d)
    ∗ outLoc d ↦[outBlk w]{fullShare} picked ix tb d)

instance give_storable (d : Dev nD) (w : Fin 32) : BI.Storable (upEmb : UEmb _ 𝕄) (give ix tb o0 d w) := by
  unfold give; infer_instance
instance back_storable (d : Dev nD) (w : Fin 32) : BI.Storable (upEmb : UEmb _ 𝕄) (back ix tb d w) := by
  unfold back; infer_instance

/-- The call hands each SparseCore its sixteen tasks' resources, and each task its own. -/
def P : (K (F := F)).Pay (nD := nD) (Val := Elt F) (Name := ℕ) (U := UU) where
  st := fun q d c => match q with | 0 => bigSep Finset.univ fun s : Fin 16 => give ix tb o0 d (task c s)
  dn := fun q d c => match q with | 0 => bigSep Finset.univ fun s : Fin 16 => back ix tb d (task c s)
  go := fun q d c s => match q with | 0 => give ix tb o0 d (task c s)
  td := fun q d c s => match q with | 0 => back ix tb d (task c s)
  x := fun _ _ => iprop(emp)

instance P_storable : (P ix tb o0).IsStorable where
  st q d c := match q with
    | 0 => (inferInstance : BI.Storable (upEmb : UEmb _ 𝕄) (bigSep Finset.univ fun s : Fin 16 => give ix tb o0 d (task c s)))
  dn q d c := match q with
    | 0 => (inferInstance : BI.Storable (upEmb : UEmb _ 𝕄) (bigSep Finset.univ fun s : Fin 16 => back ix tb d (task c s)))
  go q d c s := match q with | 0 => give_storable ix tb o0 d (task c s)
  td q d c s := match q with | 0 => back_storable ix tb d (task c s)

/-- A SparseCore's operands ARE its tasks', and its results theirs. -/
theorem vecSplit : (K (F := F)).VecSplit' (P ix tb o0) 0 := by
  intro d c
  show (bigSep Finset.univ fun s : Fin 16 => give ix tb o0 d (task c s)) ⊢ |={Set.univ}=> iprop(
      (bigSep Finset.univ fun s : Fin 16 => give ix tb o0 d (task c s))
      ∗ ((bigSep Finset.univ fun s : Fin 16 => back ix tb d (task c s)) -∗ bigSep Finset.univ fun s : Fin 16 => back ix tb d (task c s)))
  iintro H; imodintro
  isplitl [H]; · iexact H
  iintro H; iexact H

/-! ## One task -/

section Tile

variable (d : Dev nD) (L : grid0.Coords)

abbrev cOf (L : grid0.Coords) : Fin τ.nSC := (L 0).castLE hcore0
abbrev sOf (L : grid0.Coords) : Fin τ.nSub := (L 1).castLE hsub0
/-- The block of the task at coordinates `L`. -/
abbrev wOf (L : grid0.Coords) : Fin 32 := task (L 0) (L 1)
/-- The vector subcore at coordinates `L`. -/
abbrev me (d : Dev nD) (L : grid0.Coords) : Thread nD τ := V d (cOf L) (sOf L)

/-- The task's slices, as its body takes them: its entries of the list, the whole table, its rows of the result. -/
abbrev ixK (L : grid0.Coords) : Memref sig .scVector .hbm S16 .i32 :=
  (ixV).slice (Rect.unit (s := S512) (k0_off1 L) S16.size (k0_off1_inb L)) (fun _ => rfl)
abbrev tbK : Memref sig .scVector .hbm S262144x128 .f32 :=
  (tbV).slice (Rect.unit (s := S262144x128) ![0, 0] S262144x128.size inb_S262144x128_S262144x128_0_0) (fun _ => rfl)
abbrev outK (L : grid0.Coords) : Memref sig .scVector .hbm S16x128 .f32 :=
  (outV).slice (Rect.unit (s := S512x128) (k0_off2 L) S16x128.size (k0_off2_inb L)) (fun _ => rfl)

omit [FloatOps F] in
theorem ixRect_eq : Rect.unit (s := S512) (k0_off1 L) S16.size (k0_off1_inb L) = Rect.part (s := S512) (a₀ := 0) ixDvd (wOf L) := by
  unfold Rect.part Rect.block
  congr 1 <;> funext (a : Fin 1)
  · rw [k0_off1_eq]
    match a with
    | ⟨0, _⟩ => simp [Shape.partIx, Shape.partSize, wOf, task]; omega
  · match a with
    | ⟨0, _⟩ => simp [Shape.partSize]
omit [FloatOps F] in
theorem outRect_eq : Rect.unit (s := S512x128) (k0_off2 L) S16x128.size (k0_off2_inb L) = Rect.part (s := S512x128) (a₀ := 0) outDvd (wOf L) := by
  unfold Rect.part Rect.block
  congr 1 <;> funext (a : Fin 2)
  · rw [k0_off2_eq]
    match a with
    | ⟨0, _⟩ => simp [Shape.partIx, Shape.partSize, wOf, task]; omega
    | ⟨1, _⟩ => simp [Shape.partIx, Shape.partSize]
  · match a with
    | ⟨0, _⟩ => simp [Shape.partSize]
    | ⟨1, _⟩ => simp [Shape.partSize]

omit [FloatOps F] in
theorem set_ixK : (ixK L).view.set = ixBlk (wOf L) := by
  show ((View.whole (main_v6_scv : Ref sig .scVector)).slice _).set = _
  rw [View.set_slice, ixRect_eq]; exact Finset.map_refl
omit [FloatOps F] in
theorem set_outK : (outK L).view.set = outBlk (wOf L) := by
  show ((View.whole (main_v8_scv : Ref sig .scVector)).slice _).set = _
  rw [View.set_slice, outRect_eq]; exact Finset.map_refl

omit [FloatOps F] in
theorem pts_ixK (f : Buf (Elt F) (ixLoc d)) :
    ((ixK L).view.loc (me d L) ↦[(ixK L).view.set]{fullShare} f : sProp 𝕄) = ixLoc d ↦[ixBlk (wOf L)]{fullShare} f := by
  rw [set_ixK]
omit [FloatOps F] in
theorem pts_outK (f : Buf (Elt F) (outLoc d)) :
    ((outK L).view.loc (me d L) ↦[(outK L).view.set]{fullShare} f : sProp 𝕄) = outLoc d ↦[outBlk (wOf L)]{fullShare} f := by
  rw [set_outK]

/-- The three completion semaphores: the index fetch's, the write-out's, the stream's. -/
abbrev cellI (d : Dev nD) (L : grid0.Coords) : GSem nD τ sig := (me d L, .dma cc0_scoped0.sem)
abbrev cellO (d : Dev nD) (L : grid0.Coords) : GSem nD τ sig := (me d L, .dma cc0_scoped1.sem)
abbrev cellG (d : Dev nD) (L : grid0.Coords) : GSem nD τ sig := (me d L, .dma cc0_scratch2.sem)

omit [FloatOps F] in
/-- The subcore's semaphores are these three and the rest. -/
theorem ownSems_split :
    (ownSems0 (me d L) : sProp 𝕄)
      = iprop(semVal (cellI d L) 0 ∗ semVal (cellO d L) 0 ∗ semVal (cellG d L) 0
          ∗ bigSep ((((ownCells (me d L)).erase (cellI d L)).erase (cellO d L)).erase (cellG d L)) fun g => semVal g 0) := by
  have mI : cellI d L ∈ ownCells (me d L) := mem_ownCells.mpr ⟨rfl, by
    show (SemLoc.dma cc0_scoped0.sem : SemLoc sig).isScoped .scVector = true; decide⟩
  have mO : cellO d L ∈ ownCells (me d L) := mem_ownCells.mpr ⟨rfl, by
    show (SemLoc.dma cc0_scoped1.sem : SemLoc sig).isScoped .scVector = true; decide⟩
  have mG : cellG d L ∈ ownCells (me d L) := mem_ownCells.mpr ⟨rfl, by
    show (SemLoc.dma cc0_scratch2.sem : SemLoc sig).isScoped .scVector = true; decide⟩
  have nOI : cellO d L ≠ cellI d L := by simp [cellI, cellO]; decide
  have nGI : cellG d L ≠ cellI d L := by simp [cellI, cellG]; decide
  have nGO : cellG d L ≠ cellO d L := by simp [cellO, cellG]; decide
  unfold SparseCore.Cfg.ownSems0
  rw [SparseCore.bigSep_erase' mI, SparseCore.bigSep_erase' (Finset.mem_erase.mpr ⟨nOI, mO⟩),
    SparseCore.bigSep_erase' (Finset.mem_erase.mpr ⟨nGO, Finset.mem_erase.mpr ⟨nGI, mG⟩⟩)]

omit [FloatOps F] in
/-- The subcore's buffers are its two scratch buffers, at some contents, and the rest. -/
theorem ownBufs_split :
    (ownBufs (me d L) : sProp 𝕄)
      = iprop((∃ f, (me d L).loc cc0_scratch0 ↦{fullShare} f) ∗ (∃ f, (me d L).loc cc0_scratch1 ↦{fullShare} f)
          ∗ bigSep (((ownRefs (τ := τ) (.scVector (cOf L) (sOf L))).erase ((Proc.scVector (cOf L) (sOf L)).devRef cc0_scratch0)).erase
              ((Proc.scVector (cOf L) (sOf L)).devRef cc0_scratch1))
              fun b => iprop(∃ f, ((d, b) : Loc nD τ sig) ↦{fullShare} f)) := by
  have m0 := SparseCore.Cfg.mem_ownRefs_of_owner (p := Proc.scVector (cOf L) (sOf L))
    (b := (Proc.scVector (cOf L) (sOf L)).devRef cc0_scratch0) rfl
  have m1 := SparseCore.Cfg.mem_ownRefs_of_owner (p := Proc.scVector (cOf L) (sOf L))
    (b := (Proc.scVector (cOf L) (sOf L)).devRef cc0_scratch1) rfl
  have n10 : (Proc.scVector (cOf L) (sOf L)).devRef (cc0_scratch1 : Ref sig .scVector) ≠ (Proc.scVector (cOf L) (sOf L)).devRef cc0_scratch0 :=
    fun e => absurd (Proc.devRef_injective _ e) (show (cc0_scratch1 : Ref sig .scVector) ≠ cc0_scratch0 by decide)
  unfold SparseCore.Cfg.ownBufs
  refine (SparseCore.bigSep_erase' m0).trans ?_
  rw [SparseCore.bigSep_erase' (Finset.mem_erase.mpr ⟨n10, m1⟩)]

/-- What the index fetch lands: the task's entries of the list. -/
theorem fetched_inb (h : InRows ix) (fs : Buf (Elt F) ((me d L).loc cc0_scratch0)) (pay : S16.Idx → Elt F .i32)
    (hpay : pay = (ixK L).view.read (Elt F) (ix d)) :
    ∀ x, ((lstV).view.read (Elt F) (View.write (Elt F) (lstV).view fs pay Finset.univ) x).toNat
      < S262144x128.size gathers_S262144x128_S16x128.axis := by
  subst hpay; intro x
  rw [View.write_whole_univ]
  exact h d _

/-- What the write-out leaves on the task's rows of the result, when the stream brought in the table rows that the
    fetched list names: the gathered rows. -/
theorem written_eq (h : InRows ix) (fs : Buf (Elt F) ((me d L).loc cc0_scratch0)) (pay : S16x128.Idx → Elt F .f32)
    (hn : S16.numel = S16x128.size gathers_S262144x128_S16x128.axis')
    (hin : ∀ x, ((lstV).view.read (Elt F) (View.write (Elt F) (lstV).view fs ((ixK L).view.read (Elt F) (ix d)) Finset.univ) x).toNat
      < S262144x128.size gathers_S262144x128_S16x128.axis)
    (hpay : pay = SparseCore.gatherPayload gathers_S262144x128_S16x128 ((tbK).view.read (Elt F) (tb d))
      (SparseCore.rows ((lstV).view.read (Elt F) (View.write (Elt F) (lstV).view fs ((ixK L).view.read (Elt F) (ix d)) Finset.univ)) hn hin)) :
    ∀ i ∈ (outK L).view.set, (outK L).view.writes (Elt F) (o0 d) [⟨Rect.whole S16x128, pay⟩] i = picked ix tb d i := by
  intro i hi
  obtain ⟨x, -, rfl⟩ := Finset.mem_map.mp hi
  have e1 := View.read_writes_cons_emb (outK L).view (o0 d) (Rect.whole S16x128) pay [] x
  rw [Rect.emb_whole_apply, View.read_apply, cast_eq] at e1
  refine e1.trans ?_
  subst hpay
  rw [SparseCore.gatherPayload, View.read_apply, cast_eq]
  unfold picked pickRows
  refine congrArg (tb d) ?_
  funext (a : Fin 2)
  refine Fin.ext ?_
  match a with
  | ⟨0, _⟩ =>
    show 0 + 1 * (gathers_S262144x128_S16x128.idx _ x gathers_S262144x128_S16x128.axis).val = (ix d (ix1 ((outK L).view.emb x 0))).toNat % 262144
    rw [Shape.Gathers.idx_axis, Nat.mod_eq_of_lt (h d _), Nat.zero_add, Nat.one_mul]
    unfold SparseCore.rows
    dsimp only
    rw [View.write_whole_univ]
    show (ix d ((ixK L).view.emb (S16.rowMajor.symm _))).toNat = _
    refine congrArg (fun j => (ix d j).toNat) ?_
    funext (b : Fin 1)
    refine Fin.ext ?_
    match b with
    | ⟨0, _⟩ =>
      show k0_off1 L 0 + 1 * (S16.rowMajor.symm _ 0).val = k0_off2 L 0 + 1 * (x 0).val
      rw [← Shape.rowMajor_val_one (S16.rowMajor.symm _), Equiv.apply_symm_apply, k0_off1_eq, k0_off2_eq]
      rfl
  | ⟨1, _⟩ =>
    show 0 + 1 * (gathers_S262144x128_S16x128.idx _ x 1).val = k0_off2 L 1 + 1 * (x 1).val
    rw [Shape.Gathers.idx_of_ne _ _ _ _ (by decide), k0_off2_eq]
    rfl

set_option maxHeartbeats 4000000 in
/-- The task at coordinates `L`: the index fetch, the stream of the rows it names, the write-out. -/
theorem tile_run (h : InRows ix) (O : CellTallies nD τ sig (HIx 1)) (W : Waits sig (HIx 1)) (hO : ∀ g, O g none = 0) :
    iprop(levAts (K (F := F)).L (K (F := F)).lev ∗ emp ∗ give ix tb o0 d (wOf L)
        ∗ scopedBufs (me d L) ∗ scopedSems0 (me d L) ∗ owes (me d L) O W)
      ⊢ wp frame (wpE (defs₀ (F := F)) 𝒱₀ (me d L) none) Set.univ
          (cc0__gather_rows L tbV (Memref.isWhole_whole _) ixV (Memref.isWhole_whole _) outV (Memref.isWhole_whole _)
            lstV (Memref.isWhole_whole _) rowV (Memref.isWhole_whole _) cc0_scratch2 cc0_scoped0 cc0_scoped1)
          fun _ => iprop(back ix tb d (wOf L) ∗ scopedBufs (me d L) ∗ scopedSems0 (me d L)
            ∗ ∃ W', ⌜∀ p ∈ W', p ∈ W ∨ p.2 = none⌝ ∗ owes (me d L) O W') := by
  simp only [cc0__gather_rows_eq_skeleton]; unfold cc0__gather_rows_skel
  rw [(K (F := F)).scopedBufs_V scFacts d (cOf L) (sOf L), SparseCore.Cfg.scopedSems0_V (Val := Elt F) d (cOf L) (sOf L),
    ownSems_split, ownBufs_split]
  unfold give back
  iintro ⟨#Hlv, -, ⟨Hi, Ht, Ho⟩, ⟨⟨%fs, Hs⟩, ⟨%fr, Hr⟩, Hbufs⟩, ⟨HsI, HsO, HsG, Hsems⟩, HO⟩
  ihave Hmw := (show levAts (K (F := F)).L (K (F := F)).lev ⊢ Transfers.MayWaits (me d L) (default : HIx 1) O from
    (K (F := F)).mayWaits_none (thr := me d L) hO) $$ Hlv
  have hin := fetched_inb ix d L h fs
  ihave Hi := (Entails.of_eq (pts_ixK (F := F) d L _).symm) $$ Hi
  ihave Ho := (Entails.of_eq (pts_outK (F := F) d L _).symm) $$ Ho
  ihave Ht := (Entails.of_eq (show (tbLoc d ↦{ShareLeaves.leaf 5 fullShare (wOf L)} tb d : sProp 𝕄)
      = (tbV).view.loc (me d L) ↦{ShareLeaves.leaf 5 fullShare (wOf L)} tb d from rfl)) $$ Ht
  ihave Hs := (Entails.of_eq (show ((me d L).loc cc0_scratch0 ↦{fullShare} fs : sProp 𝕄) = (lstV).view.loc (me d L) ↦{fullShare} fs from rfl)) $$ Hs
  ihave Hr := (Entails.of_eq (show ((me d L).loc cc0_scratch1 ↦{fullShare} fr : sProp 𝕄) = (rowV).view.loc (me d L) ↦{fullShare} fr from rfl)) $$ Hr
  sl_exec
  -- the stream over the fetched list
  ihave Ht := (pointsTo_split_subset (q := ShareLeaves.leaf 5 fullShare (wOf L)) (f := tb d) (S := Finset.univ)
    (Finset.subset_univ (tbK).view.set)).1 $$ Ht
  icases Ht with ⟨Ht, Htr⟩
  have er : (rowV).view.set = Finset.univ := View.set_whole _
  have el : (lstV).view.set = Finset.univ := View.set_whole _
  ihave Hr := (Entails.of_eq (show ((rowV).view.loc (me d L) ↦{fullShare} fr : sProp 𝕄)
      = (rowV).view.loc (me d L) ↦[(rowV).view.set]{fullShare} fr by rw [er])) $$ Hr
  ihave Hs := (Entails.of_eq (show ((lstV).view.loc (me d L) ↦{fullShare} View.write (Elt F) (lstV).view fs (tile_run.sl.dma0 ix d L) Finset.univ : sProp 𝕄)
      = (lstV).view.loc (me d L) ↦[(lstV).view.set]{fullShare} View.write (Elt F) (lstV).view fs (tile_run.sl.dma0 ix d L) Finset.univ
      by rw [el])) $$ Hs
  have hN : ∀ h : S262144x128.Gathers 0 S16x128, ∑ j, ((rowV).slice (S16x128.rowRect h.axis' j) (S16x128.stride_rowRect h.axis' j)).view.dmaCredit
      = (rowV).view.dmaCredit := by decide
  iapply (SparseCore.wp_indirectGatherLocal countersEmb 𝒱₀ (me d L) none (hg := gathers_S262144x128_S16x128) (default : HIx 1)
      (rowV).view.dmaCredit (hN _) (by decide) (hin _ rfl)) $$ [Ht Hr Hs HsG]
  · isplitl [Ht]; · iexact Ht
    isplitl [Hr]; · iexact Hr
    isplitl [Hs]; · iexact Hs
    iexact HsG
  iintro Hfl
  sl_exec
  iapply (Transfers.wp_waitLocalO countersEmb 𝒱₀ (me d L) none (default : HIx 1) (rfl : (rowV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht, Hs⟩, HsG, HO⟩
  ihave Ht := (pointsTo_split_subset (q := ShareLeaves.leaf 5 fullShare (wOf L)) (f := tb d) (S := Finset.univ)
    (Finset.subset_univ (tbK).view.set)).2 $$ [Ht Htr]; · isplitl [Ht] <;> iassumption
  ihave Hr := (Entails.of_eq (show ((rowV).view.loc (me d L) ↦[(rowV).view.set]{fullShare} _ : sProp 𝕄)
      = (rowV).view.loc (me d L) ↦{fullShare} _ by rw [er])) $$ Hr
  ihave Hs := (Entails.of_eq (show ((lstV).view.loc (me d L) ↦[(lstV).view.set]{fullShare} _ : sProp 𝕄)
      = (lstV).view.loc (me d L) ↦{fullShare} _ by rw [el])) $$ Hs
  sl_exec
  sl_step
  isplitl [Hi Ht Ho]
  · isplitl [Hi]; · iapply (Entails.of_eq (pts_ixK (F := F) d L _)); iexact Hi
    isplitl [Ht]; · iexact Ht
    iapply (Entails.of_eq (pts_outK (F := F) d L _))
    have hpay : tile_run.sl.dma0_1 ix tb d L fs fr hin = SparseCore.gatherPayload gathers_S262144x128_S16x128 ((tbK).view.read (Elt F) (tb d))
        (SparseCore.rows ((lstV).view.read (Elt F) (View.write (Elt F) (lstV).view fs ((ixK L).view.read (Elt F) (ix d)) Finset.univ))
          cc0__gather_rows_skel._proof_8 (hin _ rfl)) := by
      unfold tile_run.sl.dma0_1
      rw [View.write_whole_univ]
      rfl
    iapply (Entails.of_eq (pointsTo_congr (written_eq ix tb o0 d L h fs _ cc0__gather_rows_skel._proof_8 (hin _ rfl) hpay)))
    iexact Ho
  isplitl [Hs Hr Hbufs]
  · isplitl [Hs]; · iexists _; iexact Hs
    isplitl [Hr]; · iexists _; iexact Hr
    iexact Hbufs
  isplitl [HsI HsO HsG Hsems]
  · isplitl [HsI]; · iexact HsI
    isplitl [HsO]; · iexact HsO
    isplitl [HsG]; · iexact HsG
    iexact Hsems
  iexists _; isplitr
  swap; · iexact HO
  ipureintro; intro p hp
  iterate 3 (rcases Finset.mem_insert.mp hp with hp | hp; · exact .inr (hp ▸ rfl))
  exact .inl hp

end Tile

/-! ## The launch's obligation for its tasks -/

/-- The coordinates of the task on subcore `s` of SparseCore `c`. -/
def taskAt (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__gather_rows (taskAt c s) tbV (Memref.isWhole_whole _) ixV (Memref.isWhole_whole _)
          outV (Memref.isWhole_whole _) lstV (Memref.isWhole_whole _) rowV (Memref.isWhole_whole _) cc0_scratch2 cc0_scoped0 cc0_scoped1) ⟨⟩ c s := rfl

set_option maxRecDepth 16384 in
/-- Each task, started with its block, ends with its block of the result at the gathered rows. -/
theorem tileObl (h : InRows ix) : (K (F := F)).TileObl (D (F := F)) 𝒱 (P ix tb o0) v₀ 0 := by
  intro d c i O W hO _ _
  simp only [show (P ix tb o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  refine (tile_run ix tb o0 d (taskAt ⟨_, hci.1⟩ ⟨_, hci.2⟩) h O W hO).trans (wp_mono frame _ _ fun _ => ?_)
  iintro ⟨Hb, Hbufs, Hsems, %W', %hW', HO⟩
  isplitl [Hb]
  · iapply (Entails.of_eq (show back ix tb d (wOf (taskAt ⟨_, hci.1⟩ ⟨_, hci.2⟩)) = (P ix tb o0).td 0 d c i from rfl)); iexact Hb
  isplitl [Hbufs]; · iexact Hbufs
  isplitl [Hsems]; · iexact Hsems
  iexists W'; isplitr
  · ipureintro; exact fun p hp => (hW' p hp).imp_right Or.inl
  · iexact HO

end Cert.Proof.GatherIdeal

end
-- ==== Proof.LaunchIdeal.lean ====
/-
  The program's run, for any float instance: the host operations, the launch of the thirty-two tasks over the arrays these
  leave, and the last reshape. From the flat row numbers being rows of the table, every run ends with the result of @main at
  the gathered rows, the two arguments unchanged and every semaphore at zero.
-/
module

public import proofs.«01_k».proof.Proof.TilesIdeal
public import proofs.«01_k».proof.Proof.HostIdeal
public import Idealize.ShloMosaic.Lib.Pipeline.Frame

@[expose] public section

noncomputable section

namespace Cert.Proof.GatherIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held held_sub_split held_congr wp_hlo_within launchContents tcRefs)

variable {F : FTy → Type}

local notation "𝕄" => MT nD τ sig (HIx 1) (Elt F) ℕ UU ℕ

/-! ## The arrays cut into the tasks' blocks, and whole again -/

section Cut

theorem ixBlk_disjoint : ∀ i ∈ (Finset.univ : Finset (Fin 32)), ∀ j ∈ (Finset.univ : Finset (Fin 32)), i ≠ j → Disjoint (ixBlk i) (ixBlk j) :=
  fun _ _ _ _ h => Rect.part_disjoint ixDvd h
theorem outBlk_disjoint : ∀ i ∈ (Finset.univ : Finset (Fin 32)), ∀ j ∈ (Finset.univ : Finset (Fin 32)), i ≠ j → Disjoint (outBlk i) (outBlk j) :=
  fun _ _ _ _ h => Rect.part_disjoint outDvd h

theorem ix_cut (d : Dev nD) (f : Buf (Elt F) (ixLoc d)) :
    (ixLoc d ↦{fullShare} f : sProp 𝕄) = bigSep Finset.univ fun w : Fin 32 => ixLoc d ↦[ixBlk w]{fullShare} f := by
  rw [← pointsTo_biUnion Finset.univ (ℓ := ixLoc d) ixBlk ixBlk_disjoint, show Finset.univ.biUnion ixBlk = Finset.univ from Rect.biUnion_part ixDvd]
theorem out_cut (d : Dev nD) (f : Buf (Elt F) (outLoc d)) :
    (outLoc d ↦{fullShare} f : sProp 𝕄) = bigSep Finset.univ fun w : Fin 32 => outLoc d ↦[outBlk w]{fullShare} f := by
  rw [← pointsTo_biUnion Finset.univ (ℓ := outLoc d) outBlk outBlk_disjoint, show Finset.univ.biUnion outBlk = Finset.univ from Rect.biUnion_part outDvd]
theorem tb_cut (d : Dev nD) (f : Buf (Elt F) (tbLoc d)) :
    (tbLoc d ↦{fullShare} f : sProp 𝕄) = bigSep Finset.univ fun w : Fin 32 => tbLoc d ↦{ShareLeaves.leaf 5 fullShare w} f :=
  ShareLeaves.pointsTo_leaves Finset.univ f 5 fullShare

variable [FloatOps F]
variable (ix : (d : Dev nD) → Buf (Elt F) (ixLoc d)) (tb : (d : Dev nD) → Buf (Elt F) (tbLoc d))
  (o0 : (d : Dev nD) → Buf (Elt F) (outLoc d))

/-- What the call takes: the three arrays whole. -/
theorem call_takes (d : Dev nD) :
    (bigSep Finset.univ fun c : Fin ((K (F := F)).nCore 0) => (P ix tb o0).st 0 d c)
      = (iprop((ixLoc d ↦{fullShare} ix d) ∗ (tbLoc d ↦{fullShare} tb d) ∗ outLoc d ↦{fullShare} o0 d) : sProp 𝕄) := by
  show (bigSep Finset.univ fun c : Fin 2 => bigSep Finset.univ fun s : Fin 16 => give ix tb o0 d (tasks (c, s))) = _
  rw [← bigSep_univ_prod (fun p : Fin 2 × Fin 16 => give ix tb o0 d (tasks p)), ← bigSep_univ_equiv tasks (fun w => give ix tb o0 d w)]
  unfold give
  rw [bigSep_sep', bigSep_sep', ← ix_cut, ← tb_cut, ← out_cut]

/-- What it gives back: the same, the result at the gathered rows. -/
theorem call_gives (d : Dev nD) :
    (bigSep Finset.univ fun c : Fin ((K (F := F)).nCore 0) => (P ix tb o0).dn 0 d c)
      = (iprop((ixLoc d ↦{fullShare} ix d) ∗ (tbLoc d ↦{fullShare} tb d) ∗ outLoc d ↦{fullShare} picked ix tb d) : sProp 𝕄) := by
  show (bigSep Finset.univ fun c : Fin 2 => bigSep Finset.univ fun s : Fin 16 => back ix tb d (tasks (c, s))) = _
  rw [← bigSep_univ_prod (fun p : Fin 2 × Fin 16 => back ix tb d (tasks p)), ← bigSep_univ_equiv tasks (fun w => back ix tb d w)]
  unfold back
  rw [bigSep_sep', bigSep_sep', ← ix_cut, ← tb_cut, ← out_cut]

end Cut

/-! ## The launch -/

variable [FloatOps F] (m : (ℓ : Loc nD τ sig) → Buf (Elt F) ℓ) (ρ : Dev nD → PrngReg)

/-- The arrays of device `d` before the call, after it, and at the end. -/
def Vpre (d : Dev nD) : Valuation τ sig (Elt F) := after preOps (launchContents m d)
def ixAt (d : Dev nD) : Buf (Elt F) (ixLoc d) := Vpre m d (Proc.devRef .tc main_v6)
def tbAt (d : Dev nD) : Buf (Elt F) (tbLoc d) := Vpre m d (Proc.devRef .tc main_v7)
def outAt (d : Dev nD) : Buf (Elt F) (outLoc d) := Vpre m d (Proc.devRef .tc main_v8)
def Vpost (d : Dev nD) : Valuation τ sig (Elt F) :=
  Function.update (Vpre m d) (Proc.devRef .tc main_v8) (picked (ixAt m) (tbAt m) d)
def Vend (d : Dev nD) : Valuation τ sig (Elt F) := (lastOp (F := F)).result (Vpost m d)

abbrev PP := P (F := F) (ixAt m) (tbAt m) (outAt m)

/-- What @main returns: the gathered rows, put back under their matrix. -/
def result (d : Dev nD) : Buf (Elt F) ((SparseCore.T d : Thread nD τ).loc main_v9) :=
  shapeCast (α := Elt F .f32) S32x16x128 (picked (ixAt m) (tbAt m) d) shapeCasts_S512x128_S32x16x128

theorem Vend_v9 (d : Dev nD) : Vend m d (Proc.devRef .tc main_v9) = result m d := by
  unfold Vend
  rw [StableHlo.reshape_result]
  unfold Vpost
  rw [Function.update_self]
  rfl
theorem Vend_arg0 (d : Dev nD) : Vend m d (Proc.devRef .tc main_arg0) = m ((SparseCore.T d).loc main_arg0) := by
  unfold Vend
  rw [StableHlo.result_of_writes_ne lastOp _ main_v9 main_arg0 rfl (by decide)]
  unfold Vpost
  rw [Function.update_of_ne (StableHlo.devRef_ne_of_ne (by decide))]
  exact after_arg0 _
theorem Vend_arg1 (d : Dev nD) : Vend m d (Proc.devRef .tc main_arg1) = m ((SparseCore.T d).loc main_arg1) := by
  unfold Vend
  rw [StableHlo.result_of_writes_ne lastOp _ main_v9 main_arg1 rfl (by decide)]
  unfold Vpost
  rw [Function.update_of_ne (StableHlo.devRef_ne_of_ne (by decide))]
  exact after_arg1 _

/-- The TensorCore's arrays are all its program's own. -/
theorem all_refs : Pipeline.ucRefs τ sig = tcRefs τ sig := by
  unfold Pipeline.ucRefs
  refine Finset.filter_true_of_mem fun b hb => ?_
  obtain ⟨r, -, rfl⟩ := Finset.mem_map.mp hb
  revert r; decide

abbrev three : Finset (DevRef τ sig) := {Proc.devRef .tc main_v6, Proc.devRef .tc main_v7, Proc.devRef .tc main_v8}
abbrev ends : Finset (DevRef τ sig) := {Proc.devRef .tc main_arg0, Proc.devRef .tc main_arg1, Proc.devRef .tc main_v9}

theorem three_sub : three ⊆ tcRefs τ sig := by
  intro b hb
  simp only [three, Finset.mem_insert, Finset.mem_singleton] at hb
  rcases hb with rfl | rfl | rfl <;> exact StableHlo.devRef_mem_tcRefs _
theorem ends_sub : ends ⊆ tcRefs τ sig := by
  intro b hb
  simp only [ends, Finset.mem_insert, Finset.mem_singleton] at hb
  rcases hb with rfl | rfl | rfl <;> exact StableHlo.devRef_mem_tcRefs _

theorem held_three (d : Dev nD) (W : Valuation τ sig (Elt F)) :
    (held (T d) three W : sProp 𝕄)
      = iprop((ixLoc d ↦{fullShare} W (Proc.devRef .tc main_v6)) ∗ (tbLoc d ↦{fullShare} W (Proc.devRef .tc main_v7))
          ∗ outLoc d ↦{fullShare} W (Proc.devRef .tc main_v8)) := by
  unfold held three
  rw [SparseCore.bigSep_insert' (by decide), SparseCore.bigSep_insert' (by decide), bigSep_singleton]
theorem held_ends (d : Dev nD) (W : Valuation τ sig (Elt F)) :
    (held (T d) ends W : sProp 𝕄)
      = iprop(((SparseCore.T d).loc main_arg0 ↦{fullShare} W (Proc.devRef .tc main_arg0)) ∗ ((SparseCore.T d).loc main_arg1 ↦{fullShare} W (Proc.devRef .tc main_arg1))
          ∗ (SparseCore.T d).loc main_v9 ↦{fullShare} W (Proc.devRef .tc main_v9)) := by
  unfold held ends
  rw [SparseCore.bigSep_insert' (by decide), SparseCore.bigSep_insert' (by decide), bigSep_singleton]

/-- Before the call: the three arrays it takes, and the rest. -/
theorem held_pre (d : Dev nD) :
    (held (T d) (tcRefs τ sig) (Vpre m d) : sProp 𝕄)
      = iprop(((ixLoc d ↦{fullShare} ixAt m d) ∗ (tbLoc d ↦{fullShare} tbAt m d) ∗ outLoc d ↦{fullShare} outAt m d)
          ∗ held (T d) (tcRefs τ sig \ three) (Vpre m d)) := by
  rw [held_sub_split _ three_sub, held_three]; rfl
/-- After it: the result's array at the gathered rows. -/
theorem held_post (d : Dev nD) :
    (held (T d) (tcRefs τ sig) (Vpost m d) : sProp 𝕄)
      = iprop(((ixLoc d ↦{fullShare} ixAt m d) ∗ (tbLoc d ↦{fullShare} tbAt m d) ∗ outLoc d ↦{fullShare} picked (ixAt m) (tbAt m) d)
          ∗ held (T d) (tcRefs τ sig \ three) (Vpre m d)) := by
  rw [held_sub_split _ three_sub, held_three]
  rw [held_congr (V := Vpost m d) (V' := Vpre m d) (S := tcRefs τ sig \ three) (T d) (fun b hb => Function.update_of_ne (fun e =>
    (Finset.mem_sdiff.mp hb).2 (by rw [e]; simp [three])) _ _)]
  rw [show Vpost m d (Proc.devRef .tc main_v8) = picked (ixAt m) (tbAt m) d from Function.update_self _ _ _,
    show Vpost m d (Proc.devRef .tc main_v6) = ixAt m d from Function.update_of_ne (StableHlo.devRef_ne_of_ne (by decide)) _ _,
    show Vpost m d (Proc.devRef .tc main_v7) = tbAt m d from Function.update_of_ne (StableHlo.devRef_ne_of_ne (by decide)) _ _]

/-- What @main leaves the claims: its arguments at their launch contents, its result at the gathered rows. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v9 ↦{fullShare} result m d)

theorem held_end (d : Dev nD) :
    (held (T d) (tcRefs τ sig) ((lastOp (F := F)).result (Vpost m d)) : sProp 𝕄)
      = iprop(FIN m d ∗ held (T d) (tcRefs τ sig \ ends) (Vend m d)) := by
  show held (T d) (tcRefs τ sig) (Vend m d) = _
  rw [held_sub_split _ ends_sub, held_ends, Vend_arg0, Vend_arg1, Vend_v9]

/-- The ghost state's launch element: the handshakes' rounds, no transfer counted. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [show (bigSep Finset.univ fun _ : Dev nD => (iprop(emp) : sProp 𝕄)) = iprop(emp) from bigSep_emp_const _]; iempintro
  rw [show (bigSep Finset.univ fun thr : Thread nD τ => bigSep Finset.univ fun q : Fin 1 => (PP (F := F) m).x q thr) = (iprop(emp) : sProp 𝕄) from
    (bigSep_congr fun _ _ => bigSep_univ_of_subsingleton (0 : Fin 1)).trans (bigSep_emp_const _)]
  iempintro

/-- @main on device `d`'s TensorCore: the operations before the call, the call, the last operation. -/
theorem main_run (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (tcRefs τ sig) (launchContents m d) from
    (Pipeline.unscopedBufs_held d (launchContents m d)).trans (by rw [all_refs]), main_eq]
  iintro ⟨#Hctx, Hst, ⟨Hb, Hheld, Hts, -⟩, -⟩
  iapply (StableHlo.wp_seq 𝒱 none Set.univ d (tcRefs τ sig) _ preOps preOps_bufs preOps_fresh (launchContents m d)) $$ [Hb Hheld]
  · isplitl [Hb] <;> iassumption
  iintro ⟨Hb, Hheld⟩
  ihave Hh := (Entails.of_eq (show (held (T d) (tcRefs τ sig) (after preOps (launchContents m d)) : sProp 𝕄) = _ from held_pre m d)) $$ Hheld
  icases Hh with ⟨Hthree, Hrest⟩
  rw [wp_bind]
  iapply ((K (F := F)).wp_run (D (F := F)) 𝒱 (EH := EH) (P := PP m) κ d 0) $$ [Hst Hthree Hb Hrest Hts]
  isplitr; · iexact Hctx
  isplitl [Hst]; · iexact Hst
  isplitl [Hthree]
  · rw [call_takes]; iexact Hthree
  iintro ⟨Hst, Hdn⟩
  ihave Hthree := (Entails.of_eq (call_gives (ixAt m) (tbAt m) (outAt m) d)) $$ Hdn
  iapply (wp_hlo_within 𝒱 (SparseCore.T d) none Set.univ (op := lastOp) (S := tcRefs τ sig) (StableHlo.reshape_bufs_sub _ _ _ _ _ _) (V := Vpost m d)) $$ [Hb Hthree Hrest]
  · isplitl [Hb]; · iexact Hb
    rw [held_post]
    isplitl [Hthree] <;> iassumption
  iintro ⟨Hb, Hheld⟩
  ihave Hh := (Entails.of_eq (held_end (F := F) m d)) $$ Hheld
  icases Hh with ⟨Hfin, -⟩
  rw [wp_ret]; imodintro
  isplitl [Hst]; · iexact Hst
  isplitl [Hfin]; · iexact Hfin
  isplitl [Hb] <;> iassumption

/-- What the final state holds on device `d`. -/
def atEnd (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v9) = result m d

set_option maxRecDepth 16384 in
theorem fin_run (d : Dev nD) (s' : Phys nD τ sig (Elt F)) : iprop(FIN m d ∗ SI s') ⊢ (⌜atEnd m d s'⌝ : sProp 𝕄) := by
  iintro ⟨⟨H0, H1, H9⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v9) (I := Finset.univ) (q := fullShare) (f := result m d)) $$ [HSI H9]
  · isplitl [HSI] <;> iassumption
  icases H with %h9
  ipureintro
  exact ⟨funext fun i => h0 i (Finset.mem_univ i), funext fun i => h1 i (Finset.mem_univ i), funext fun i => h9 i (Finset.mem_univ i)⟩

/-- Every run ends with the arguments unchanged, the result at the gathered rows, every semaphore at zero. -/
theorem kernel_run [∀ e, Nonempty (Elt F e)] (h : InRows (ixAt m)) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v9) = result m c) ∧ r.2.sem = fun _ => 0 :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ _ h)
    (fun q _ => match q with | 0 => SparseCore.Cfg.VecSplit.of_plain (vecSplit _ _ _))
    m ρ main (fun _ => iprop(emp)) (FIN m) (u₀ (F := F)) (sep_elim_left.trans (hu₀ m)) (main_run m ρ) (atEnd m) (fin_run m) _ (fun _ h hz => ⟨h, hz⟩)

end Cert.Proof.GatherIdeal

end
-- ==== Proof.PlainRun.lean ====
/-
  The reference's run, for any float instance: its operations as one list, and what they leave in the result — rows of the
  table, the value matrix with its first two axes joined, picked by the flat row numbers.
-/
module

public import proofs.«01_k».proof.Proof.Gen.ReferenceIdeal
public import proofs.«01_k».proof.Proof.ArgRange
public import Idealize.ShloMosaic.Lib.StableHlo.RunHlo
public import Idealize.ShloMosaic.Lib.Quiescent
public import Idealize.ShloMosaic.Lib.ValueIdxCore

@[expose] public section

noncomputable section

namespace Cert.Proof.Plain

open Cert.ReferenceIdeal Cert.ReferenceIdeal.Gen
open Idealize.ShloMosaic Idealize.SL.Sem
open Idealize.ShloMosaic.StableHlo (seq after launchContents)

variable {F : FTy → Type} [FloatOps F]

/-! ## The operations -/

/-- The column of the greatest entry of each row. -/
abbrev argOps : List (HloOp τ sig (Elt F)) :=
  [ StableHlo.TRef.nullary main_call0.v0 (iotaInDim S32x16x8192 32 2),
    StableHlo.TRef.nullary main_call0.cst (constant S_ .f32 0xFF800000#32),
    StableHlo.TRef.nullary main_call0.c (constantI S_ 32 0#32),
    StableHlo.TRef.quaternary (.of main_arg0) main_call0.v0 main_call0.cst main_call0.c main_call0.v1_0
      (fun x y u v j => (Host.argReduce reducer_argmax_f32_i32 x y u v reducesTo_S32x16x8192_S32x16_d2 h_S_ j).1),
    StableHlo.TRef.quaternary (.of main_arg0) main_call0.v0 main_call0.cst main_call0.c main_call0.v1_1
      (fun x y u v j => (Host.argReduce reducer_argmax_f32_i32 x y u v reducesTo_S32x16x8192_S32x16_d2 h_S_ j).2) ]

/-- The flat row numbers, and the table. -/
abbrev rowOps : List (HloOp τ sig (Elt F)) :=
  [ StableHlo.nullary main_v1 (iotaInDim S32 32 0),
    StableHlo.nullary main_c (constantI S_ 32 8192#32),
    StableHlo.unary main_c main_v2 (broadcastInDim S32 ![] bcast_S_S32 : (⟨S_, .i32⟩ : BufTy).Contents (Elt F) → (⟨S32, .i32⟩ : BufTy).Contents (Elt F)),
    StableHlo.binary main_v2 main_v1 main_v3 (muli : (⟨S32, .i32⟩ : BufTy).Contents (Elt F) → (⟨S32, .i32⟩ : BufTy).Contents (Elt F) → (⟨S32, .i32⟩ : BufTy).Contents (Elt F)),
    StableHlo.nullary main_c_0 (constantI S_ 32 0#32),
    StableHlo.unary main_c_0 main_v4 (broadcastInDim S32 ![] bcast_S_S32 : (⟨S_, .i32⟩ : BufTy).Contents (Elt F) → (⟨S32, .i32⟩ : BufTy).Contents (Elt F)),
    StableHlo.binary main_v4 main_v3 main_v5 (addi : (⟨S32, .i32⟩ : BufTy).Contents (Elt F) → (⟨S32, .i32⟩ : BufTy).Contents (Elt F) → (⟨S32, .i32⟩ : BufTy).Contents (Elt F)),
    StableHlo.reshape main_v5 main_v6 (rfl : (.i32 : EltTy) = .i32) shapeCasts_S32_S32x1,
    StableHlo.unary main_v6 main_v7 (broadcastInDim S32x16 ![0, 1] bcast_S32x1_S32x16_0_1 : (⟨S32x1, .i32⟩ : BufTy).Contents (Elt F) → (⟨S32x16, .i32⟩ : BufTy).Contents (Elt F)),
    StableHlo.binary main_v0 main_v7 main_v8 (addi : (⟨S32x16, .i32⟩ : BufTy).Contents (Elt F) → (⟨S32x16, .i32⟩ : BufTy).Contents (Elt F) → (⟨S32x16, .i32⟩ : BufTy).Contents (Elt F)),
    StableHlo.reshape main_arg1 main_v9 (rfl : (.f32 : EltTy) = .f32) shapeCasts_S32x8192x128_S262144x128,
    StableHlo.reshape main_v8 main_v10 (rfl : (.i32 : EltTy) = .i32) shapeCasts_S32x16_S512 ]

/-- The picking of the table's rows. -/
abbrev takeOps : List (HloOp τ sig (Elt F)) :=
  [ StableHlo.TRef.nullary main_call1.c (constantI S_ 32 0#32),
    StableHlo.TRef.unary main_call1.c main_call1.v0 (broadcastInDim S512 ![] bcast_S_S512),
    StableHlo.TRef.binary (.of main_v10) main_call1.v0 main_call1.v1 (cmpi .slt),
    StableHlo.TRef.nullary main_call1.c_0 (constantI S_ 32 262144#32),
    StableHlo.TRef.unary main_call1.c_0 main_call1.v2 (broadcastInDim S512 ![] bcast_S_S512),
    StableHlo.TRef.binary (.of main_v10) main_call1.v2 main_call1.v3 addi,
    StableHlo.TRef.ternary main_call1.v1 main_call1.v3 (.of main_v10) main_call1_call0.v0 select,
    StableHlo.TRef.unary main_call1.call0.v0 main_call1.v5 (broadcastInDim S512x1 ![0] bcast_S512_S512x1_0),
    StableHlo.TRef.nullary main_call1.c_1 (constantI S1 32 262143#32),
    StableHlo.TRef.nullary main_call1.c_2 (constantI S_ 32 0#32),
    StableHlo.TRef.unary main_call1.c_2 main_call1.v6 (broadcastInDim S512x1 ![] bcast_S_S512x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S512x1 ![0, 1] bcast_S1x1_S512x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S512x1_S512_d1 h_S_),
    StableHlo.TRef.binary (.of main_v9) main_call1.v5 main_call1.v13 (fun x i => Host.gather gather_S262144x128_S512x1_S512x128_1_0_n_n_0_1_1128 x i),
    StableHlo.TRef.unary main_call1.v12 main_call1.v14 (broadcastInDim S512x128 ![0] bcast_S512_S512x128_0),
    StableHlo.TRef.nullary main_call1.cst (constant S_ .f32 0x7FC00000#32),
    StableHlo.TRef.unary main_call1.cst main_call1.v15 (broadcastInDim S512x128 ![] bcast_S_S512x128),
    StableHlo.TRef.ternary main_call1.v14 main_call1.v13 main_call1.v15 main_call1.v16 select ]

/-- All of them, in order. -/
abbrev ops : List (HloOp τ sig (Elt F)) :=
  argOps ++ (rowOps ++ (takeOps ++
    [StableHlo.reshape main_v11 main_v12 (rfl : (.f32 : EltTy) = .f32) shapeCasts_S512x128_S32x16x128]))

/-- @main is these operations. -/
theorem main_eq (d : Dev nD) : main (F := F) d = seq ops := by
  simp only [main, fn_argmax.body, fn_take.body, fn_where.body, ops, argOps, rowOps, takeOps, List.cons_append,
    List.nil_append, seq, bind_assoc, pure_bind]

theorem ops_bufs : (ops (F := F)).Forall fun op => op.bufs ⊆ StableHlo.tcRefs τ sig := by simp

theorem ops_fresh : ∀ op ∈ ops (F := F), op.fresh = ∅ := by
  intro op hop; fin_cases hop <;> rfl

/-! ## What they compute -/

/-- The column of the greatest entry of each row. -/
def cols (a : S32x16x8192.Idx → F .f32) : S32x16.Idx → BitVec 32 :=
  colOf reducer_argmax_f32_i32 a (iotaInDim S32x16x8192 32 2) (constant S_ .f32 0xFF800000#32) (constantI S_ 32 0#32)
    reducesTo_S32x16x8192_S32x16_d2 h_S_

/-- How many rows of the table come before each matrix. -/
def starts : S32.Idx → BitVec 32 :=
  addi (broadcastInDim S32 ![] bcast_S_S32 (constantI S_ 32 0#32))
    (muli (broadcastInDim S32 ![] bcast_S_S32 (constantI S_ 32 8192#32)) (iotaInDim S32 32 0))

/-- The flat row numbers: each row's column, past the rows of the earlier matrices. -/
def flat (a : S32x16x8192.Idx → F .f32) : S512.Idx → BitVec 32 :=
  shapeCast S512 (addi (cols a) (broadcastInDim S32x16 ![0, 1] bcast_S32x1_S32x16_0_1 (shapeCast S32x1 starts shapeCasts_S32_S32x1)))
    shapeCasts_S32x16_S512

/-- A row number below zero counts from the end; the numbers stand in a column. -/
def wrapped (ix : S512.Idx → BitVec 32) : S512x1.Idx → BitVec 32 :=
  broadcastInDim S512x1 ![0] bcast_S512_S512x1_0
    (select (cmpi .slt ix (broadcastInDim S512 ![] bcast_S_S512 (constantI S_ 32 0#32)))
      (addi ix (broadcastInDim S512 ![] bcast_S_S512 (constantI S_ 32 262144#32))) ix)

/-- Which of the row numbers are those of a row of the table. -/
def inTable (k : S512x1.Idx → BitVec 32) : S512.Idx → BitVec 1 :=
  Host.reduce IntOp.andi
    (andi (cmpi .sge k (broadcastInDim S512x1 ![] bcast_S_S512x1 (constantI S_ 32 0#32)))
      (cmpi .sle k (broadcastInDim S512x1 ![0, 1] bcast_S1x1_S512x1_0_1 (broadcastInDim S1x1 ![1] bcast_S1_S1x1_1 (constantI S1 32 262143#32)))))
    (constantI S_ 1 1#1) reducesTo_S512x1_S512_d1 h_S_

/-- The rows picked, a row number outside the table giving no numbers. -/
def taken (tb : S262144x128.Idx → F .f32) (ix : S512.Idx → BitVec 32) : S512x128.Idx → F .f32 :=
  select (broadcastInDim S512x128 ![0] bcast_S512_S512x128_0 (inTable (wrapped ix)))
    (Host.gather gather_S262144x128_S512x1_S512x128_1_0_n_n_0_1_1128 tb (wrapped ix))
    (broadcastInDim S512x128 ![] bcast_S_S512x128 (constant S_ .f32 0x7FC00000#32))

/-- Two lines of operations in a row leave what the second leaves of what the first left. -/
theorem after_two : ∀ (l k : List (HloOp τ sig (Elt F))) (V : Valuation τ sig (Elt F)), after (l ++ k) V = after k (after l V)
  | [], _, _ => rfl
  | op :: l, k, V => by
    rw [List.cons_append, StableHlo.after_cons, StableHlo.after_cons, after_two l k]

theorem after_arg (V : Valuation τ sig (Elt F)) :
    after argOps V (Proc.devRef .tc main_v0) = cols (V (Proc.devRef .tc main_arg0)) := by
  simp only [argOps]
  after_results_simp
  rfl

theorem after_arg_tb (V : Valuation τ sig (Elt F)) :
    after argOps V (Proc.devRef .tc main_arg1) = V (Proc.devRef .tc main_arg1) := by
  simp only [argOps]
  after_results_simp

theorem after_row (V : Valuation τ sig (Elt F)) :
    after rowOps V (Proc.devRef .tc main_v10)
      = shapeCast S512 (addi (V (Proc.devRef .tc main_v0) : S32x16.Idx → BitVec 32)
          (broadcastInDim S32x16 ![0, 1] bcast_S32x1_S32x16_0_1 (shapeCast S32x1 starts shapeCasts_S32_S32x1))) shapeCasts_S32x16_S512 := by
  simp only [rowOps]
  after_results_simp
  rfl

theorem after_row_tb (V : Valuation τ sig (Elt F)) :
    after rowOps V (Proc.devRef .tc main_v9)
      = shapeCast (α := F .f32) S262144x128 (V (Proc.devRef .tc main_arg1)) shapeCasts_S32x8192x128_S262144x128 := by
  simp only [rowOps]
  after_results_simp
  rfl

theorem after_take (V : Valuation τ sig (Elt F)) :
    after takeOps V (Proc.devRef .tc main_v11) = taken (V (Proc.devRef .tc main_v9)) (V (Proc.devRef .tc main_v10)) := by
  simp only [takeOps]
  after_results_simp
  rfl

theorem after_last (V : Valuation τ sig (Elt F)) :
    after [StableHlo.reshape main_v11 main_v12 (rfl : (.f32 : EltTy) = .f32) shapeCasts_S512x128_S32x16x128] V (Proc.devRef .tc main_v12)
      = shapeCast (α := F .f32) S32x16x128 (V (Proc.devRef .tc main_v11)) shapeCasts_S512x128_S32x16x128 := by
  after_results_simp
  rfl

theorem after_result (V : Valuation τ sig (Elt F)) :
    after ops V (Proc.devRef .tc main_v12)
      = shapeCast (α := F .f32) S32x16x128 (taken (shapeCast (α := F .f32) S262144x128 (V (Proc.devRef .tc main_arg1)) shapeCasts_S32x8192x128_S262144x128)
          (flat (V (Proc.devRef .tc main_arg0)))) shapeCasts_S512x128_S32x16x128 := by
  rw [ops, after_two, after_two, after_two, after_last, after_take, after_row, after_row_tb,
    after_arg, after_arg_tb]
  rfl

theorem after_arg0 (V : Valuation τ sig (Elt F)) :
    after ops V (Proc.devRef .tc main_arg0) = V (Proc.devRef .tc main_arg0) := by
  simp only [ops, argOps, rowOps, takeOps, List.cons_append, List.nil_append]
  after_results_simp

theorem after_arg1 (V : Valuation τ sig (Elt F)) :
    after ops V (Proc.devRef .tc main_arg1) = V (Proc.devRef .tc main_arg1) := by
  simp only [ops, argOps, rowOps, takeOps, List.cons_append, List.nil_append]
  after_results_simp

variable (m : (ℓ : Loc nD τ sig) → Buf (Elt F) ℓ) (ρ : Dev nD → PrngReg)

/-- The result the reference leaves on device `d`. -/
def result (d : Dev nD) : S32x16x128.Idx → F .f32 :=
  shapeCast (α := F .f32) S32x16x128
    (taken (shapeCast (α := F .f32) S262144x128 (m ((d.tc : Thread nD τ).loc main_arg1)) shapeCasts_S32x8192x128_S262144x128)
      (flat (m ((d.tc : Thread nD τ).loc main_arg0)))) shapeCasts_S512x128_S32x16x128

/-- The reference runs: it leaves `result`, its arguments as they were, and every counter at zero. -/
theorem reference_run :
    θ_run (Cert.ReferenceIdeal.defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v12) = result m c) ∧ r.2.sem = fun _ => 0 :=
  θ_run_mono (StableHlo.run_hlo defs main (ops := ops) main_eq (by decide) (by decide) ops_bufs ops_fresh m ρ)
    fun r h => ⟨fun c => ⟨(h c main_arg0).trans (after_arg0 _), (h c main_arg1).trans (after_arg1 _),
      (h c main_v12).trans (after_result _)⟩, sem_eq_zero_of_no_sems (by decide) r.2⟩

end Cert.Proof.Plain

end
-- ==== Proof.PlainTake.lean ====
/-
  The reference's picking of rows, read at an element: when every row number is that of a row of the table, none counts from the
  end and none is left out, and row `r` of what it picks is the table's row at the `r`-th number.
-/
module

public import proofs.«01_k».proof.Proof.PlainRun
public import Idealize.ShloMosaic.Lib.Routing.Ops
public import Idealize.ShloMosaic.Lib.ReduceAll
public import Idealize.ShloMosaic.Lib.Pipeline.Value

@[expose] public section

noncomputable section

namespace Cert.Proof.Plain

open Cert.ReferenceIdeal Cert.ReferenceIdeal.Gen
open Idealize.ShloMosaic
open Idealize.ShloMosaic.ValueIdx (ix1 ix2 eq_ix1 eq_ix2)

variable {F : FTy → Type} [FloatOps F]

/-- A word below 262144 is not negative. -/
theorem slt_zero_of_small (b : BitVec 32) (hb : b.toNat < 262144) : IntOp.cmpi .slt b 0#32 = 0#1 := by
  have : b.slt 0#32 = false := by
    rw [BitVec.slt, decide_eq_false_iff_not, BitVec.toInt_eq_toNat_of_lt (by omega)]
    simp
  simp [IntOp.cmpi, this]

theorem sge_zero_of_small (b : BitVec 32) (hb : b.toNat < 262144) : IntOp.cmpi .sge b 0#32 = 1#1 := by
  have : (0#32 : BitVec 32).sle b = true := by
    rw [BitVec.sle, decide_eq_true_iff, BitVec.toInt_eq_toNat_of_lt (x := b) (by omega)]
    simp
  simp [IntOp.cmpi, this]

theorem sle_last_of_small (b : BitVec 32) (hb : b.toNat < 262144) : IntOp.cmpi .sle b 262143#32 = 1#1 := by
  have : b.sle 262143#32 = true := by
    rw [BitVec.sle, decide_eq_true_iff, BitVec.toInt_eq_toNat_of_lt (x := b) (by omega), show (262143#32 : BitVec 32).toInt = 262143 from rfl]
    omega
  simp [IntOp.cmpi, this]

/-- No row number counts from the end. -/
theorem wrapped_apply (ix : S512.Idx → BitVec 32) (h : ∀ j, (ix j).toNat < 262144) (r : Fin 512) (z : Fin 1) :
    wrapped ix (ix2 r z) = ix (ix1 r) := by
  unfold wrapped
  refine (broadcastInDim_apply _ _ _ (ix2 r z) (ix1 r) (fun a => match a with | ⟨0, _⟩ => rfl)).trans ?_
  show Scalar.select (IntOp.cmpi .slt (ix (ix1 r)) 0#32) _ (ix (ix1 r)) = _
  rw [slt_zero_of_small _ (h _)]
  rfl

/-- Every row number is that of a row of the table. -/
theorem inTable_apply (k : S512x1.Idx → BitVec 32) (h : ∀ j, (k j).toNat < 262144) (j : S512.Idx) : inTable k j = 1#1 := by
  unfold inTable
  refine Host.reduce_andi_one _ _ _ _ _ rfl fun i => ?_
  show IntOp.andi (IntOp.cmpi .sge (k i) 0#32) (IntOp.cmpi .sle (k i) 262143#32) = 1#1
  rw [sge_zero_of_small _ (h i), sle_last_of_small _ (h i)]
  rfl

/-- Element `(r, c)` of the rows picked. -/
theorem taken_apply (tb : S262144x128.Idx → F .f32) (ix : S512.Idx → BitVec 32) (h : ∀ j, (ix j).toNat < 262144)
    (r : Fin 512) (c : Fin 128) :
    taken tb ix (ix2 r c) = tb (ix2 ⟨(ix (ix1 r)).toNat, h _⟩ c) := by
  have hw : ∀ j, (wrapped ix j).toNat < 262144 := fun j => by
    obtain ⟨r, z, rfl⟩ : ∃ (r : Fin 512) (z : Fin 1), j = ix2 r z := ⟨j 0, j 1, eq_ix2 j⟩
    rw [wrapped_apply ix h]
    exact h _
  have hm : broadcastInDim S512x128 ![0] bcast_S512_S512x128_0 (inTable (wrapped ix)) (ix2 r c) = 1#1 :=
    (broadcastInDim_apply _ _ _ (ix2 r c) (ix1 r) (fun a => match a with | ⟨0, _⟩ => rfl)).trans (inTable_apply _ hw _)
  have hg : Host.gather gather_S262144x128_S512x1_S512x128_1_0_n_n_0_1_1128 tb (wrapped ix) (ix2 r c)
      = tb (ix2 ⟨(ix (ix1 r)).toNat, h _⟩ c) :=
    Routing.gather_row gather_S262144x128_S512x1_S512x128_1_0_n_n_0_1_1128 rfl rfl rfl rfl rfl tb (wrapped ix) r c _
      (by rw [wrapped_apply ix h]; exact BitVec.eq_of_toNat_eq (by rw [BitVec.toNat_ofNat]; exact (Nat.mod_eq_of_lt (ix (ix1 r)).isLt).symm)) (by omega)
  unfold taken
  rw [ValueIdx.select_apply, hm, hg]
  rfl

end Cert.Proof.Plain

end
-- ==== Proof.ArgReshape.lean ====
/-
  An arg-max over extended reals does not see how its operand's axes are grouped: where a reshaped operand's entries reduce into
  an index just where the operand's do into another, and the columns agree, the columns found there agree.
-/
module

public import proofs.«01_k».proof.Proof.ArgRange
public import Idealize.ShloMosaic.PureOps.Ideal.Laws

@[expose] public section

noncomputable section

namespace Cert.Proof

open Idealize.ShloMosaic

/-- Numbers kept and read below one bound are those kept and read below the same bound written otherwise. -/
theorem finRange_cast {γ : Type} {n n' : Nat} (e : n' = n) (p : Fin n → Bool) (g : Fin n → γ) :
    ((List.finRange n').filter fun k => p (k.cast e)).map (fun k => g (k.cast e)) = ((List.finRange n).filter p).map g := by
  subst e; rfl

/-- The entries that reduce into an index, listed in order, are the same for a reshaped operand. -/
theorem fiber_reshape {s s' t t' : Shape} {axes : List (Fin s.rank)} {axes' : List (Fin s'.rank)} {α B : Type} (hn : s.ShapeCasts s')
    (x : s.Idx → α) (y : s.Idx → B) (y' : s'.Idx → B) (hy : ∀ i, y' i = y (Shape.reshapeEquiv hn i))
    (h : s.ReducesTo axes t) (h' : s'.ReducesTo axes' t') (j : t.Idx) (j' : t'.Idx)
    (hd : ∀ i : s'.Idx, h'.drop i = j' ↔ h.drop (Shape.reshapeEquiv hn i) = j) :
    Host.argReduceFiber (shapeCast s' x hn) y' h' j' = Host.argReduceFiber x y h j := by
  have hi : ∀ n : Fin s'.numel, Shape.reshapeEquiv hn (s'.rowMajor.symm n) = s.rowMajor.symm (n.cast hn) := fun n =>
    Shape.reshapeEquiv_eq_of_rowMajor hn (by rw [Equiv.apply_symm_apply, Equiv.apply_symm_apply]; rfl)
  unfold Host.argReduceFiber
  rw [← finRange_cast hn (fun n => decide (h.drop (s.rowMajor.symm n) = j))]
  have hp : (fun n : Fin s'.numel => decide (h'.drop (s'.rowMajor.symm n) = j')) = fun n => decide (h.drop (s.rowMajor.symm (n.cast hn)) = j) := by
    funext n
    rw [← hi n]
    exact decide_eq_decide.mpr (hd _)
  have hg : (fun n : Fin s'.numel => (shapeCast s' x hn (s'.rowMajor.symm n), y' (s'.rowMajor.symm n)))
      = fun n => (x (s.rowMajor.symm (n.cast hn)), y (s.rowMajor.symm (n.cast hn))) := by
    funext n
    rw [hy, ← hi n]
    rfl
  rw [hp, hg]

/-- So are the columns found. -/
theorem colOf_reshape {s s' t t' u : Shape} {axes : List (Fin s.rank)} {axes' : List (Fin s'.rank)} {φ : FTy} {B : Type} (hn : s.ShapeCasts s')
    (f : Ideal φ × B → Ideal φ × B → Ideal φ × B) (x : FVec Ideal s φ) (y : s.Idx → B) (y' : s'.Idx → B)
    (hy : ∀ i, y' i = y (Shape.reshapeEquiv hn i)) (ix : u.Idx → Ideal φ) (iy : u.Idx → B)
    (h : s.ReducesTo axes t) (h' : s'.ReducesTo axes' t') (hu : 0 < u.numel) (j : t.Idx) (j' : t'.Idx)
    (hd : ∀ i : s'.Idx, h'.drop i = j' ↔ h.drop (Shape.reshapeEquiv hn i) = j) :
    colOf f (shapeCast s' x hn : FVec Ideal s' φ) y' ix iy h' hu j' = colOf f x y ix iy h hu j := by
  unfold colOf
  rw [Ideal.argReduce_eq_reduce2, Ideal.argReduce_eq_reduce2, Host.reduce2_eq_foldl_fiber, Host.reduce2_eq_foldl_fiber,
    fiber_reshape hn x y y' hy h h' j j' hd]

end Cert.Proof

end
-- ==== Proof.Agree.lean ====
/-
  The kernel's result and the reference's are one function of the two arguments: the columns found in the attention matrix agree,
  so the flat row numbers do, so the rows picked from the value matrix do.
-/
module

public import proofs.«01_k».proof.Proof.FlatIdeal
public import proofs.«01_k».proof.Proof.LaunchIdeal
public import proofs.«01_k».proof.Proof.PlainTake
public import proofs.«01_k».proof.Proof.ArgReshape

@[expose] public section

noncomputable section

namespace Cert.Proof.Agree

open Idealize.ShloMosaic
open Idealize.ShloMosaic.ValueIdx (ix1 ix2 ix3 eq_ix1 eq_ix2 eq_ix3)
open Cert.ReferenceIdeal (S32x16x8192 S32x16 S512 S32 S_ S32x1)
open Cert.KernelIdeal (S512x8192)
open Cert.KernelIdeal.Gen

/-- Both programs' arg-max has the same body. -/
theorem bodies : (Cert.KernelIdeal.reducer_argmax_f32_i32 (F := Ideal)) = Cert.ReferenceIdeal.reducer_argmax_f32_i32 := rfl

/-- The coordinates of an entry before and after the first two axes are joined. -/
theorem join_coords (i : S512x8192.Idx) (k : S32x16x8192.Idx) (e : (S32x16x8192.rowMajor k : Nat) = S512x8192.rowMajor i) :
    (i 0).val = 16 * (k 0).val + (k 1).val ∧ (i 1).val = (k 2).val ∧ (k 1).val < 16 := by
  rw [Shape.rowMajor_val_three, Shape.rowMajor_val_two] at e
  have e' : ((k 0).val * 16 + (k 1).val) * 8192 + (k 2).val = (i 0).val * 8192 + (i 1).val := e
  have h1 : (k 1).val < 16 := (k 1).isLt
  have h2 : (k 2).val < 8192 := (k 2).isLt
  have h3 : (i 1).val < 8192 := (i 1).isLt
  omega

/-- Row `r`'s column is that of row `r % 16` of matrix `r / 16`. -/
theorem cols_agree (a : S32x16x8192.Idx → Ideal .f32) (hs : S32x16x8192.ShapeCasts S512x8192) (r : Fin 512) (b : Fin 32) (q : Fin 16)
    (hr : r.val = 16 * b.val + q.val) :
    GatherIdeal.cols (F := Ideal) (shapeCast S512x8192 a hs) (ix1 r) = Plain.cols (F := Ideal) a (ix2 b q) := by
  delta GatherIdeal.cols Plain.cols
  rw [bodies]
  refine colOf_reshape hs _ a (iotaInDim S32x16x8192 32 2) (iotaInDim S512x8192 32 1) (fun i => ?_) _ _ _ _ _ _ _ fun i => ?_
  · obtain ⟨-, h1, -⟩ := join_coords i _ (Shape.rowMajor_reshapeEquiv hs i)
    show BitVec.ofNat 32 (i 1).val = BitVec.ofNat 32 (Shape.reshapeEquiv hs i 2).val
    rw [h1]
  · obtain ⟨h0, -, hq⟩ := join_coords i _ (Shape.rowMajor_reshapeEquiv hs i)
    have hq' := q.isLt
    constructor
    · intro h
      have e : (i 0).val = r.val :=
        (Shape.ReducesTo.drop_apply_val_of_eq reducesTo_S512x8192_S512_d1 i 0 0).symm.trans (congrArg (fun x : S512.Idx => (x 0).val) h)
      funext (c : Fin 2)
      match c with
      | ⟨0, _⟩ =>
        refine Fin.ext ((Shape.ReducesTo.drop_apply_val_of_eq Cert.ReferenceIdeal.Gen.reducesTo_S32x16x8192_S32x16_d2 _ 0 0).trans ?_)
        show (Shape.reshapeEquiv hs i 0).val = b.val
        omega
      | ⟨1, _⟩ =>
        refine Fin.ext ((Shape.ReducesTo.drop_apply_val_of_eq Cert.ReferenceIdeal.Gen.reducesTo_S32x16x8192_S32x16_d2 _ 1 1).trans ?_)
        show (Shape.reshapeEquiv hs i 1).val = q.val
        omega
    · intro h
      have e0 : (Shape.reshapeEquiv hs i 0).val = b.val :=
        (Shape.ReducesTo.drop_apply_val_of_eq Cert.ReferenceIdeal.Gen.reducesTo_S32x16x8192_S32x16_d2 _ 0 0).symm.trans
          (congrArg (fun x : S32x16.Idx => (x 0).val) h)
      have e1 : (Shape.reshapeEquiv hs i 1).val = q.val :=
        (Shape.ReducesTo.drop_apply_val_of_eq Cert.ReferenceIdeal.Gen.reducesTo_S32x16x8192_S32x16_d2 _ 1 1).symm.trans
          (congrArg (fun x : S32x16.Idx => (x 1).val) h)
      funext (c : Fin 1)
      match c with
      | ⟨0, _⟩ =>
        refine Fin.ext ((Shape.ReducesTo.drop_apply_val_of_eq reducesTo_S512x8192_S512_d1 i 0 0).trans ?_)
        show (i 0).val = r.val
        omega

/-- Before matrix `b` come `8192 * b` rows of the table. -/
theorem starts_apply : ∀ (b : Fin 32) (q : Fin 16),
    broadcastInDim S32x16 ![0, 1] Cert.ReferenceIdeal.Gen.bcast_S32x1_S32x16_0_1
      (shapeCast S32x1 Plain.starts Cert.ReferenceIdeal.Gen.shapeCasts_S32_S32x1) (ix2 b q) = BitVec.ofNat 32 (8192 * b.val) := by
  decide +kernel

/-- The flat row numbers agree. -/
theorem flat_agree (a : S32x16x8192.Idx → Ideal .f32) (hs : S32x16x8192.ShapeCasts S512x8192) :
    GatherIdeal.flat (F := Ideal) (shapeCast S512x8192 a hs) = Plain.flat (F := Ideal) a := by
  funext j
  obtain ⟨r, rfl⟩ : ∃ r : Fin 512, j = ix1 r := ⟨j 0, eq_ix1 j⟩
  have hlt := r.isLt
  have hr : r.val = 16 * (r.val / 16) + r.val % 16 := by omega
  refine BitVec.eq_of_toNat_eq ?_
  have hc := GatherIdeal.cols_lt (F := Ideal) (shapeCast S512x8192 a hs) (ix1 r)
  have hk : Plain.flat (F := Ideal) a (ix1 r)
      = Plain.cols (F := Ideal) a (ix2 (⟨r.val / 16, by omega⟩ : Fin 32) (⟨r.val % 16, by omega⟩ : Fin 16)) + BitVec.ofNat 32 (8192 * (r.val / 16)) := by
    unfold Plain.flat
    refine (shapeCast_apply _ _ (ix1 r) (ix2 (⟨r.val / 16, by omega⟩ : Fin 32) (⟨r.val % 16, by omega⟩ : Fin 16)) ?_).trans ?_
    · rw [Shape.rowMajor_val_two, Shape.rowMajor_val_one]
      show r.val / 16 * 16 + r.val % 16 = r.val
      omega
    · exact congrArg (fun w : BitVec 32 => Plain.cols (F := Ideal) a _ + w) (starts_apply _ _)
  rw [hk, ← cols_agree a hs r _ _ hr, GatherIdeal.flat_toNat, BitVec.toNat_add, BitVec.toNat_ofNat]
  omega

/-- The reference's picking of rows is the kernel's, of row numbers that are those of rows of the table. -/
theorem taken_agree (tb : Cert.ReferenceIdeal.S262144x128.Idx → Ideal .f32) (ix : S512.Idx → BitVec 32)
    (h : ∀ j, (ix j).toNat < 262144) : Plain.taken (F := Ideal) tb ix = GatherIdeal.pickRows ix tb := by
  funext j
  obtain ⟨r, q, rfl⟩ : ∃ (r : Fin 512) (q : Fin 128), j = ix2 r q := ⟨j 0, j 1, eq_ix2 j⟩
  rw [Plain.taken_apply tb ix h r q]
  unfold GatherIdeal.pickRows
  exact congrArg (fun k : Fin 262144 => tb (ix2 k q)) (Fin.ext (Nat.mod_eq_of_lt (h (ix1 r))).symm)

/-- So are the rows picked from the table by the flat row numbers. -/
theorem rows_agree (a : S32x16x8192.Idx → Ideal .f32) (hs : S32x16x8192.ShapeCasts S512x8192)
    (tb : Cert.ReferenceIdeal.S262144x128.Idx → Ideal .f32) :
    Plain.taken (F := Ideal) tb (Plain.flat (F := Ideal) a)
      = GatherIdeal.pickRows (GatherIdeal.flat (F := Ideal) (shapeCast S512x8192 a hs)) tb := by
  rw [← flat_agree a hs]
  exact taken_agree tb _ (GatherIdeal.flat_lt _)

/-- The kernel's result, as a function of its arguments. -/
theorem kernel_result (m : (ℓ : Loc Cert.KernelIdeal.nD Cert.KernelIdeal.τ Cert.KernelIdeal.sig) → Buf (Elt Ideal) ℓ) (c : Dev Cert.KernelIdeal.nD) :
    GatherIdeal.result (F := Ideal) m c
      = shapeCast (α := Ideal .f32) Cert.KernelIdeal.S32x16x128
          (GatherIdeal.pickRows
            (GatherIdeal.flat (F := Ideal) (shapeCast S512x8192 (m ((c.tc : Thread Cert.KernelIdeal.nD Cert.KernelIdeal.τ).loc Cert.KernelIdeal.main_arg0)) shapeCasts_S32x16x8192_S512x8192))
            (shapeCast (α := Ideal .f32) Cert.KernelIdeal.S262144x128 (m ((c.tc : Thread Cert.KernelIdeal.nD Cert.KernelIdeal.τ).loc Cert.KernelIdeal.main_arg1)) shapeCasts_S32x8192x128_S262144x128))
          shapeCasts_S512x128_S32x16x128 := by
  unfold GatherIdeal.result GatherIdeal.picked GatherIdeal.ixAt GatherIdeal.tbAt GatherIdeal.Vpre
  rw [GatherIdeal.after_ix, GatherIdeal.after_tb]

/-- Of arguments that agree, the results agree. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Plain.result (F := Ideal) m' c = GatherIdeal.result (F := Ideal) m c := by
  rw [kernel_result]
  unfold Plain.result
  rw [rows_agree _ shapeCasts_S32x16x8192_S512x8192, h0, h1]

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.LaunchBits
public import proofs.«01_k».proof.Proof.FlatBits
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's row numbers are those of rows of the table, whatever its arguments, at bit patterns. -/
theorem rows_bits (m : (ℓ : Loc nD τ sig) → Buf (Elt Bits) ℓ) : GatherBits.InRows (F := Bits) (GatherBits.ixAt m) := fun d j => by
  unfold GatherBits.ixAt GatherBits.Vpre
  rw [GatherBits.after_ix]
  exact GatherBits.flat_lt _ j

/-- So are they over extended reals. -/
theorem rows_ideal (m : (ℓ : Loc Cert.KernelIdeal.nD Cert.KernelIdeal.τ Cert.KernelIdeal.sig) → Buf (Elt Ideal) ℓ) :
    GatherIdeal.InRows (F := Ideal) (GatherIdeal.ixAt m) := fun d j => by
  unfold GatherIdeal.ixAt GatherIdeal.Vpre
  rw [GatherIdeal.after_ix]
  exact GatherIdeal.flat_lt _ j

/-- The kernel runs to its end, its arguments unchanged and every counter at zero. -/
theorem frame_kernel : Cert.quiescent_Kernel (hKernel := Cert.Kernel.Gen.facts) := fun m g _ =>
  θ_run_mono (GatherBits.kernel_run (F := Bits) m g (rows_bits m)) fun _ h => ⟨fun c => ⟨(h.1 c).1, (h.1 c).2.1⟩, h.2⟩

/-- So does the kernel over extended reals. -/
theorem frame_ideal : Cert.quiescent_KernelIdeal (hKernelIdeal := Cert.KernelIdeal.Gen.facts) := fun m g _ =>
  θ_run_mono (GatherIdeal.kernel_run (F := Ideal) m g (rows_ideal m)) fun _ h => ⟨fun c => ⟨(h.1 c).1, (h.1 c).2.1⟩, h.2⟩

/-- So does the reference. -/
theorem frame_reference : Cert.quiescent_ReferenceIdeal (hReferenceIdeal := Cert.ReferenceIdeal.Gen.facts) := fun m g _ =>
  θ_run_mono (Plain.reference_run (F := Ideal) m g) fun _ h => ⟨fun c => ⟨(h.1 c).1, (h.1 c).2.1⟩, h.2⟩

/-- Over extended reals, of equal arguments, the kernel and the reference end with equal results. -/
theorem values : Cert.algebraic_KernelIdeal_ReferenceIdeal (hKernelIdeal := Cert.KernelIdeal.Gen.facts)
    (hReferenceIdeal := Cert.ReferenceIdeal.Gen.facts) := by
  intro m g m' g' _ hm
  refine ⟨fun c => GatherIdeal.result (F := Ideal) m c,
    θ_run_mono (GatherIdeal.kernel_run (F := Ideal) m g (rows_ideal m)) fun _ h c => ⟨(h.1 c).2.2, (h.1 c).1, (h.1 c).2.1⟩,
    θ_run_mono (Plain.reference_run (F := Ideal) m' g') fun _ h c =>
      ⟨(h.1 c).2.2.trans (Agree.result_agree m m' c (hm c).1 (hm c).2), (h.1 c).1, (h.1 c).2.1⟩⟩

/-- Every claim of the certificate. -/
theorem claim : Cert.Claim :=
  ⟨Cert.Kernel.Gen.facts, Cert.KernelIdeal.Gen.facts, Cert.ReferenceIdeal.Gen.facts,
    frame_kernel, frame_ideal, frame_reference, trivial, values⟩

end Cert.Proof

end
